-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))).1 = (fun _ => 1#1)
    ∧ (Cert.Pre_finite_KernelIdeal.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))).1 = (fun _ => 1#1)
    ∧ (Cert.Pre_finite_ReferenceIdeal.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)

variable [Facts]

def fn {F : FTy → Type} [FloatOps F] (main_arg0 : FVec F S2048x1024 .bf16) : IVec S2048x1024 1 × IVec S2048x1024 1 :=
  let main_v0 : FVec F S2048x1024 .f32 := (extf .f32 · bitsLt_bf16_f32) main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := (extf .f32 · bitsLt_bf16_f32) main_arg0
  let main_cst_0 : FVec F S_ .f32 := constant S_ .f32 0xFF800000#32
  let main_v4 : FVec F S2048x1024 .f32 := broadcastInDim S2048x1024 ![] bcast_S_S2048x1024 main_cst_0
  let main_v5 : IVec S2048x1024 1 := cmpf .ogt main_v3 main_v4
  (main_v2, main_v5)
-- ==== Pre_finite_ReferenceIdeal.lean ====
abbrev S2048x8192 : Shape := ⟨2, ![2048, 8192]⟩
abbrev S_ : Shape := ⟨0, ![]⟩

class Facts : Prop where
  bitsLt_bf16_f32 : FTy.bits .bf16 < FTy.bits .f32
  bcast_S_S2048x8192 : S_.BroadcastsInDim S2048x8192 (![] : Fin 0 → Fin S2048x8192.rank)

variable [Facts]

def fn {F : FTy → Type} [FloatOps F] (main_arg0 : FVec F S2048x8192 .bf16) : IVec S2048x8192 1 × IVec S2048x8192 1 :=
  let main_v0 : FVec F S2048x8192 .f32 := (extf .f32 · bitsLt_bf16_f32) main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_v3 : FVec F S2048x8192 .f32 := (extf .f32 · bitsLt_bf16_f32) main_arg0
  let main_cst_0 : FVec F S_ .f32 := constant S_ .f32 0xFF800000#32
  let main_v4 : FVec F S2048x8192 .f32 := broadcastInDim S2048x8192 ![] bcast_S_S2048x8192 main_cst_0
  let main_v5 : IVec S2048x8192 1 := cmpf .ogt main_v3 main_v4
  (main_v2, main_v5)
-- ==== Kernel.lean ====
abbrev S2048x1024 : Shape := ⟨2, ![2048, 1024]⟩
abbrev S16x128 : Shape := ⟨2, ![16, 128]⟩
abbrev S7x16x128 : Shape := ⟨3, ![7, 16, 128]⟩
abbrev S4x7 : Shape := ⟨2, ![4, 7]⟩
abbrev S_ : Shape := ⟨0, ![]⟩
abbrev S1x1024 : Shape := ⟨2, ![1, 1024]⟩
abbrev S128x1024 : Shape := ⟨2, ![128, 1024]⟩
abbrev S1x128 : Shape := ⟨2, ![1, 128]⟩
abbrev S1x1 : Shape := ⟨2, ![1, 1]⟩
abbrev S1x4x128 : Shape := ⟨3, ![1, 4, 128]⟩
abbrev S4x128 : Shape := ⟨2, ![4, 128]⟩
abbrev S7x4x128 : Shape := ⟨3, ![7, 4, 128]⟩
abbrev S1x128x1024 : Shape := ⟨3, ![1, 128, 1024]⟩
abbrev S1x128x1 : Shape := ⟨3, ![1, 128, 1]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S16x128, .f32⟩
  | .local _ .vmem, ⟨4, _⟩ => ⟨S7x16x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v136 : BitVec 32 := Scalar.addi v2 c1_i32_85
  let c8_i32_86 : BitVec 32 := 8#32
  let c0_i32_87 : BitVec 32 := 0#32
  let v137 : BitVec 1 := Scalar.cmpi .eq c8_i32_86 c0_i32_87
  let c1_i32_88 : BitVec 32 := 1#32
  let v138 : BitVec 32 := Scalar.select v137 c1_i32_88 c8_i32_86
  let v139 : BitVec 32 := Scalar.remsi v136 v138
  let c0_i32_90 : BitVec 32 := 0#32
  let v141 : BitVec 1 := Scalar.cmpi .slt v139 c0_i32_90
  let c0_i32_91 : BitVec 32 := 0#32
  let v142 : BitVec 1 := Scalar.cmpi .slt v138 c0_i32_91
  let v143 : BitVec 1 := Scalar.xori v141 v142
  let c0_i32_89 : BitVec 32 := 0#32
  let v140 : BitVec 1 := Scalar.cmpi .ne v139 c0_i32_89
  let v144 : BitVec 1 := Scalar.andi v143 v140
  let v145 : BitVec 32 := Scalar.addi v139 v138
  let v146 : BitVec 32 := Scalar.select v144 v145 v139
  let c1_i32_97 : BitVec 32 := 1#32
  let v147 : BitVec 32 := Scalar.muli v146 c1_i32_97
  let v148 : BitVec 32 := Scalar.addi c0_i32_98 v147
  v148.toNat
def k0_dev9 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v156 : BitVec 32 := Scalar.addi v2 c2_i32_103
  let c8_i32_104 : BitVec 32 := 8#32
  let c0_i32_105 : BitVec 32 := 0#32
  let v157 : BitVec 1 := Scalar.cmpi .eq c8_i32_104 c0_i32_105
  let c1_i32_106 : BitVec 32 := 1#32
  let v158 : BitVec 32 := Scalar.select v157 c1_i32_106 c8_i32_104
  let v159 : BitVec 32 := Scalar.remsi v156 v158
  let c0_i32_108 : BitVec 32 := 0#32
  let v161 : BitVec 1 := Scalar.cmpi .slt v159 c0_i32_108
  let c0_i32_109 : BitVec 32 := 0#32
  let v162 : BitVec 1 := Scalar.cmpi .slt v158 c0_i32_109
  let v163 : BitVec 1 := Scalar.xori v161 v162
  let c0_i32_107 : BitVec 32 := 0#32
  let v160 : BitVec 1 := Scalar.cmpi .ne v159 c0_i32_107
  let v164 : BitVec 1 := Scalar.andi v163 v160
  let v165 : BitVec 32 := Scalar.addi v159 v158
  let v166 : BitVec 32 := Scalar.select v164 v165 v159
  let c1_i32_115 : BitVec 32 := 1#32
  let v167 : BitVec 32 := Scalar.muli v166 c1_i32_115
  let v168 : BitVec 32 := Scalar.addi c0_i32_116 v167
  v168.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_121 : BitVec 32 := 3#32
  let v176 : BitVec 32 := Scalar.addi v2 c3_i32_121
  let c8_i32_122 : BitVec 32 := 8#32
  let c0_i32_123 : BitVec 32 := 0#32
  let v177 : BitVec 1 := Scalar.cmpi .eq c8_i32_122 c0_i32_123
  let c1_i32_124 : BitVec 32 := 1#32
  let v178 : BitVec 32 := Scalar.select v177 c1_i32_124 c8_i32_122
  let v179 : BitVec 32 := Scalar.remsi v176 v178
  let c0_i32_126 : BitVec 32 := 0#32
  let v181 : BitVec 1 := Scalar.cmpi .slt v179 c0_i32_126
  let c0_i32_127 : BitVec 32 := 0#32
  let v182 : BitVec 1 := Scalar.cmpi .slt v178 c0_i32_127
  let v183 : BitVec 1 := Scalar.xori v181 v182
  let c0_i32_125 : BitVec 32 := 0#32
  let v180 : BitVec 1 := Scalar.cmpi .ne v179 c0_i32_125
  let v184 : BitVec 1 := Scalar.andi v183 v180
  let v185 : BitVec 32 := Scalar.addi v179 v178
  let v186 : BitVec 32 := Scalar.select v184 v185 v179
  let c1_i32_133 : BitVec 32 := 1#32
  let v187 : BitVec 32 := Scalar.muli v186 c1_i32_133
  let v188 : BitVec 32 := Scalar.addi c0_i32_134 v187
  v188.toNat
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_139 : BitVec 32 := 4#32
  let v196 : BitVec 32 := Scalar.addi v2 c4_i32_139
  let c8_i32_140 : BitVec 32 := 8#32
  let c0_i32_141 : BitVec 32 := 0#32
  let v197 : BitVec 1 := Scalar.cmpi .eq c8_i32_140 c0_i32_141
  let c1_i32_142 : BitVec 32 := 1#32
  let v198 : BitVec 32 := Scalar.select v197 c1_i32_142 c8_i32_140
  let v199 : BitVec 32 := Scalar.remsi v196 v198
  let c0_i32_144 : BitVec 32 := 0#32
  let v201 : BitVec 1 := Scalar.cmpi .slt v199 c0_i32_144
  let c0_i32_145 : BitVec 32 := 0#32
  let v202 : BitVec 1 := Scalar.cmpi .slt v198 c0_i32_145
  let v203 : BitVec 1 := Scalar.xori v201 v202
  let c0_i32_143 : BitVec 32 := 0#32
  let v200 : BitVec 1 := Scalar.cmpi .ne v199 c0_i32_143
  let v204 : BitVec 1 := Scalar.andi v203 v200
  let v205 : BitVec 32 := Scalar.addi v199 v198
  let v206 : BitVec 32 := Scalar.select v204 v205 v199
  let c1_i32_151 : BitVec 32 := 1#32
  let v207 : BitVec 32 := Scalar.muli v206 c1_i32_151
  let v208 : BitVec 32 := Scalar.addi c0_i32_152 v207
  v208.toNat
def k0_dev12 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_157 : BitVec 32 := 5#32
  let v216 : BitVec 32 := Scalar.addi v2 c5_i32_157
  let c8_i32_158 : BitVec 32 := 8#32
  let c0_i32_159 : BitVec 32 := 0#32
  let v217 : BitVec 1 := Scalar.cmpi .eq c8_i32_158 c0_i32_159
  let c1_i32_160 : BitVec 32 := 1#32
  let v218 : BitVec 32 := Scalar.select v217 c1_i32_160 c8_i32_158
  let v219 : BitVec 32 := Scalar.remsi v216 v218
  let c0_i32_162 : BitVec 32 := 0#32
  let v221 : BitVec 1 := Scalar.cmpi .slt v219 c0_i32_162
  let c0_i32_163 : BitVec 32 := 0#32
  let v222 : BitVec 1 := Scalar.cmpi .slt v218 c0_i32_163
  let v223 : BitVec 1 := Scalar.xori v221 v222
  let c0_i32_161 : BitVec 32 := 0#32
  let v220 : BitVec 1 := Scalar.cmpi .ne v219 c0_i32_161
  let v224 : BitVec 1 := Scalar.andi v223 v220
  let v225 : BitVec 32 := Scalar.addi v219 v218
  let v226 : BitVec 32 := Scalar.select v224 v225 v219
  let c1_i32_169 : BitVec 32 := 1#32
  let v227 : BitVec 32 := Scalar.muli v226 c1_i32_169
  let v228 : BitVec 32 := Scalar.addi c0_i32_170 v227
  v228.toNat
def k0_dev13 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_175 : BitVec 32 := 6#32
  let v236 : BitVec 32 := Scalar.addi v2 c6_i32_175
  let c8_i32_176 : BitVec 32 := 8#32
  let c0_i32_177 : BitVec 32 := 0#32
  let v237 : BitVec 1 := Scalar.cmpi .eq c8_i32_176 c0_i32_177
  let c1_i32_178 : BitVec 32 := 1#32
  let v238 : BitVec 32 := Scalar.select v237 c1_i32_178 c8_i32_176
  let v239 : BitVec 32 := Scalar.remsi v236 v238
  let c0_i32_180 : BitVec 32 := 0#32
  let v241 : BitVec 1 := Scalar.cmpi .slt v239 c0_i32_180
  let c0_i32_181 : BitVec 32 := 0#32
  let v242 : BitVec 1 := Scalar.cmpi .slt v238 c0_i32_181
  let v243 : BitVec 1 := Scalar.xori v241 v242
  let c0_i32_179 : BitVec 32 := 0#32
  let v240 : BitVec 1 := Scalar.cmpi .ne v239 c0_i32_179
  let v244 : BitVec 1 := Scalar.andi v243 v240
  let v245 : BitVec 32 := Scalar.addi v239 v238
  let v246 : BitVec 32 := Scalar.select v244 v245 v239
  let c1_i32_187 : BitVec 32 := 1#32
  let v247 : BitVec 32 := Scalar.muli v246 c1_i32_187
  let v248 : BitVec 32 := Scalar.addi c0_i32_188 v247
  v248.toNat
def k0_dev14 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_193 : BitVec 32 := 7#32
  let v256 : BitVec 32 := Scalar.addi v2 c7_i32_193
  let c8_i32_194 : BitVec 32 := 8#32
  let c0_i32_195 : BitVec 32 := 0#32
  let v257 : BitVec 1 := Scalar.cmpi .eq c8_i32_194 c0_i32_195
  let c1_i32_196 : BitVec 32 := 1#32
  let v258 : BitVec 32 := Scalar.select v257 c1_i32_196 c8_i32_194
  let v259 : BitVec 32 := Scalar.remsi v256 v258
  let c0_i32_198 : BitVec 32 := 0#32
  let v261 : BitVec 1 := Scalar.cmpi .slt v259 c0_i32_198
  let c0_i32_199 : BitVec 32 := 0#32
  let v262 : BitVec 1 := Scalar.cmpi .slt v258 c0_i32_199
  let v263 : BitVec 1 := Scalar.xori v261 v262
  let c0_i32_197 : BitVec 32 := 0#32
  let v260 : BitVec 1 := Scalar.cmpi .ne v259 c0_i32_197
  let v264 : BitVec 1 := Scalar.andi v263 v260
  let v265 : BitVec 32 := Scalar.addi v259 v258
  let v266 : BitVec 32 := Scalar.select v264 v265 v259
  let c1_i32_205 : BitVec 32 := 1#32
  let v267 : BitVec 32 := Scalar.muli v266 c1_i32_205
  let v268 : BitVec 32 := Scalar.addi c0_i32_206 v267
  v268.toNat
def k0_dev15 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_231 : BitVec 32 := 1#32
  let v316 : BitVec 32 := Scalar.addi v2 c1_i32_231
  let c8_i32_232 : BitVec 32 := 8#32
  let c0_i32_233 : BitVec 32 := 0#32
  let v317 : BitVec 1 := Scalar.cmpi .eq c8_i32_232 c0_i32_233
  let c1_i32_234 : BitVec 32 := 1#32
  let v318 : BitVec 32 := Scalar.select v317 c1_i32_234 c8_i32_232
  let v319 : BitVec 32 := Scalar.remsi v316 v318
  let c0_i32_236 : BitVec 32 := 0#32
  let v321 : BitVec 1 := Scalar.cmpi .slt v319 c0_i32_236
  let c0_i32_237 : BitVec 32 := 0#32
  let v322 : BitVec 1 := Scalar.cmpi .slt v318 c0_i32_237
  let v323 : BitVec 1 := Scalar.xori v321 v322
  let c0_i32_235 : BitVec 32 := 0#32
  let v320 : BitVec 1 := Scalar.cmpi .ne v319 c0_i32_235
  let v324 : BitVec 1 := Scalar.andi v323 v320
  let v325 : BitVec 32 := Scalar.addi v319 v318
  let v326 : BitVec 32 := Scalar.select v324 v325 v319
  let c1_i32_243 : BitVec 32 := 1#32
  let v327 : BitVec 32 := Scalar.muli v326 c1_i32_243
  let v328 : BitVec 32 := Scalar.addi c0_i32_244 v327
  v328.toNat
def k0_dev16 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_249 : BitVec 32 := 2#32
  let v336 : BitVec 32 := Scalar.addi v2 c2_i32_249
  let c8_i32_250 : BitVec 32 := 8#32
  let c0_i32_251 : BitVec 32 := 0#32
  let v337 : BitVec 1 := Scalar.cmpi .eq c8_i32_250 c0_i32_251
  let c1_i32_252 : BitVec 32 := 1#32
  let v338 : BitVec 32 := Scalar.select v337 c1_i32_252 c8_i32_250
  let v339 : BitVec 32 := Scalar.remsi v336 v338
  let c0_i32_254 : BitVec 32 := 0#32
  let v341 : BitVec 1 := Scalar.cmpi .slt v339 c0_i32_254
  let c0_i32_255 : BitVec 32 := 0#32
  let v342 : BitVec 1 := Scalar.cmpi .slt v338 c0_i32_255
  let v343 : BitVec 1 := Scalar.xori v341 v342
  let c0_i32_253 : BitVec 32 := 0#32
  let v340 : BitVec 1 := Scalar.cmpi .ne v339 c0_i32_253
  let v344 : BitVec 1 := Scalar.andi v343 v340
  let v345 : BitVec 32 := Scalar.addi v339 v338
  let v346 : BitVec 32 := Scalar.select v344 v345 v339
  let c1_i32_261 : BitVec 32 := 1#32
  let v347 : BitVec 32 := Scalar.muli v346 c1_i32_261
  let v348 : BitVec 32 := Scalar.addi c0_i32_262 v347
  v348.toNat
def k0_dev17 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_267 : BitVec 32 := 3#32
  let v356 : BitVec 32 := Scalar.addi v2 c3_i32_267
  let c8_i32_268 : BitVec 32 := 8#32
  let c0_i32_269 : BitVec 32 := 0#32
  let v357 : BitVec 1 := Scalar.cmpi .eq c8_i32_268 c0_i32_269
  let c1_i32_270 : BitVec 32 := 1#32
  let v358 : BitVec 32 := Scalar.select v357 c1_i32_270 c8_i32_268
  let v359 : BitVec 32 := Scalar.remsi v356 v358
  let c0_i32_272 : BitVec 32 := 0#32
  let v361 : BitVec 1 := Scalar.cmpi .slt v359 c0_i32_272
  let c0_i32_273 : BitVec 32 := 0#32
  let v362 : BitVec 1 := Scalar.cmpi .slt v358 c0_i32_273
  let v363 : BitVec 1 := Scalar.xori v361 v362
  let c0_i32_271 : BitVec 32 := 0#32
  let v360 : BitVec 1 := Scalar.cmpi .ne v359 c0_i32_271
  let v364 : BitVec 1 := Scalar.andi v363 v360
  let v365 : BitVec 32 := Scalar.addi v359 v358
  let v366 : BitVec 32 := Scalar.select v364 v365 v359
  let c1_i32_279 : BitVec 32 := 1#32
  let v367 : BitVec 32 := Scalar.muli v366 c1_i32_279
  let v368 : BitVec 32 := Scalar.addi c0_i32_280 v367
  v368.toNat
def k0_dev18 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_285 : BitVec 32 := 4#32
  let v376 : BitVec 32 := Scalar.addi v2 c4_i32_285
  let c8_i32_286 : BitVec 32 := 8#32
  let c0_i32_287 : BitVec 32 := 0#32
  let v377 : BitVec 1 := Scalar.cmpi .eq c8_i32_286 c0_i32_287
  let c1_i32_288 : BitVec 32 := 1#32
  let v378 : BitVec 32 := Scalar.select v377 c1_i32_288 c8_i32_286
  let v379 : BitVec 32 := Scalar.remsi v376 v378
  let c0_i32_290 : BitVec 32 := 0#32
  let v381 : BitVec 1 := Scalar.cmpi .slt v379 c0_i32_290
  let c0_i32_291 : BitVec 32 := 0#32
  let v382 : BitVec 1 := Scalar.cmpi .slt v378 c0_i32_291
  let v383 : BitVec 1 := Scalar.xori v381 v382
  let c0_i32_289 : BitVec 32 := 0#32
  let v380 : BitVec 1 := Scalar.cmpi .ne v379 c0_i32_289
  let v384 : BitVec 1 := Scalar.andi v383 v380
  let v385 : BitVec 32 := Scalar.addi v379 v378
  let v386 : BitVec 32 := Scalar.select v384 v385 v379
  let c1_i32_297 : BitVec 32 := 1#32
  let v387 : BitVec 32 := Scalar.muli v386 c1_i32_297
  let v388 : BitVec 32 := Scalar.addi c0_i32_298 v387
  v388.toNat
def k0_dev19 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_303 : BitVec 32 := 5#32
  let v396 : BitVec 32 := Scalar.addi v2 c5_i32_303
  let c8_i32_304 : BitVec 32 := 8#32
  let c0_i32_305 : BitVec 32 := 0#32
  let v397 : BitVec 1 := Scalar.cmpi .eq c8_i32_304 c0_i32_305
  let c1_i32_306 : BitVec 32 := 1#32
  let v398 : BitVec 32 := Scalar.select v397 c1_i32_306 c8_i32_304
  let v399 : BitVec 32 := Scalar.remsi v396 v398
  let c0_i32_308 : BitVec 32 := 0#32
  let v401 : BitVec 1 := Scalar.cmpi .slt v399 c0_i32_308
  let c0_i32_309 : BitVec 32 := 0#32
  let v402 : BitVec 1 := Scalar.cmpi .slt v398 c0_i32_309
  let v403 : BitVec 1 := Scalar.xori v401 v402
  let c0_i32_307 : BitVec 32 := 0#32
  let v400 : BitVec 1 := Scalar.cmpi .ne v399 c0_i32_307
  let v404 : BitVec 1 := Scalar.andi v403 v400
  let v405 : BitVec 32 := Scalar.addi v399 v398
  let v406 : BitVec 32 := Scalar.select v404 v405 v399
  let c1_i32_315 : BitVec 32 := 1#32
  let v407 : BitVec 32 := Scalar.muli v406 c1_i32_315
  let v408 : BitVec 32 := Scalar.addi c0_i32_316 v407
  v408.toNat
def k0_dev20 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_321 : BitVec 32 := 6#32
  let v416 : BitVec 32 := Scalar.addi v2 c6_i32_321
  let c8_i32_322 : BitVec 32 := 8#32
  let c0_i32_323 : BitVec 32 := 0#32
  let v417 : BitVec 1 := Scalar.cmpi .eq c8_i32_322 c0_i32_323
  let c1_i32_324 : BitVec 32 := 1#32
  let v418 : BitVec 32 := Scalar.select v417 c1_i32_324 c8_i32_322
  let v419 : BitVec 32 := Scalar.remsi v416 v418
  let c0_i32_326 : BitVec 32 := 0#32
  let v421 : BitVec 1 := Scalar.cmpi .slt v419 c0_i32_326
  let c0_i32_327 : BitVec 32 := 0#32
  let v422 : BitVec 1 := Scalar.cmpi .slt v418 c0_i32_327
  let v423 : BitVec 1 := Scalar.xori v421 v422
  let c0_i32_325 : BitVec 32 := 0#32
  let v420 : BitVec 1 := Scalar.cmpi .ne v419 c0_i32_325
  let v424 : BitVec 1 := Scalar.andi v423 v420
  let v425 : BitVec 32 := Scalar.addi v419 v418
  let v426 : BitVec 32 := Scalar.select v424 v425 v419
  let c1_i32_333 : BitVec 32 := 1#32
  let v427 : BitVec 32 := Scalar.muli v426 c1_i32_333
  let v428 : BitVec 32 := Scalar.addi c0_i32_334 v427
  v428.toNat
def k0_dev21 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_339 : BitVec 32 := 7#32
  let v436 : BitVec 32 := Scalar.addi v2 c7_i32_339
  let c8_i32_340 : BitVec 32 := 8#32
  let c0_i32_341 : BitVec 32 := 0#32
  let v437 : BitVec 1 := Scalar.cmpi .eq c8_i32_340 c0_i32_341
  let c1_i32_342 : BitVec 32 := 1#32
  let v438 : BitVec 32 := Scalar.select v437 c1_i32_342 c8_i32_340
  let v439 : BitVec 32 := Scalar.remsi v436 v438
  let c0_i32_344 : BitVec 32 := 0#32
  let v441 : BitVec 1 := Scalar.cmpi .slt v439 c0_i32_344
  let c0_i32_345 : BitVec 32 := 0#32
  let v442 : BitVec 1 := Scalar.cmpi .slt v438 c0_i32_345
  let v443 : BitVec 1 := Scalar.xori v441 v442
  let c0_i32_343 : BitVec 32 := 0#32
  let v440 : BitVec 1 := Scalar.cmpi .ne v439 c0_i32_343
  let v444 : BitVec 1 := Scalar.andi v443 v440
  let v445 : BitVec 32 := Scalar.addi v439 v438
  let v446 : BitVec 32 := Scalar.select v444 v445 v439
  let c1_i32_351 : BitVec 32 := 1#32
  let v447 : BitVec 32 := Scalar.muli v446 c1_i32_351
  let v448 : BitVec 32 := Scalar.addi c0_i32_352 v447
  v448.toNat
def k0_dev22 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_377 : BitVec 32 := 1#32
  let v496 : BitVec 32 := Scalar.addi v2 c1_i32_377
  let c8_i32_378 : BitVec 32 := 8#32
  let c0_i32_379 : BitVec 32 := 0#32
  let v497 : BitVec 1 := Scalar.cmpi .eq c8_i32_378 c0_i32_379
  let c1_i32_380 : BitVec 32 := 1#32
  let v498 : BitVec 32 := Scalar.select v497 c1_i32_380 c8_i32_378
  let v499 : BitVec 32 := Scalar.remsi v496 v498
  let c0_i32_382 : BitVec 32 := 0#32
  let v501 : BitVec 1 := Scalar.cmpi .slt v499 c0_i32_382
  let c0_i32_383 : BitVec 32 := 0#32
  let v502 : BitVec 1 := Scalar.cmpi .slt v498 c0_i32_383
  let v503 : BitVec 1 := Scalar.xori v501 v502
  let c0_i32_381 : BitVec 32 := 0#32
  let v500 : BitVec 1 := Scalar.cmpi .ne v499 c0_i32_381
  let v504 : BitVec 1 := Scalar.andi v503 v500
  let v505 : BitVec 32 := Scalar.addi v499 v498
  let v506 : BitVec 32 := Scalar.select v504 v505 v499
  let c1_i32_389 : BitVec 32 := 1#32
  let v507 : BitVec 32 := Scalar.muli v506 c1_i32_389
  let v508 : BitVec 32 := Scalar.addi c0_i32_390 v507
  v508.toNat
def k0_dev23 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_395 : BitVec 32 := 2#32
  let v516 : BitVec 32 := Scalar.addi v2 c2_i32_395
  let c8_i32_396 : BitVec 32 := 8#32
  let c0_i32_397 : BitVec 32 := 0#32
  let v517 : BitVec 1 := Scalar.cmpi .eq c8_i32_396 c0_i32_397
  let c1_i32_398 : BitVec 32 := 1#32
  let v518 : BitVec 32 := Scalar.select v517 c1_i32_398 c8_i32_396
  let v519 : BitVec 32 := Scalar.remsi v516 v518
  let c0_i32_400 : BitVec 32 := 0#32
  let v521 : BitVec 1 := Scalar.cmpi .slt v519 c0_i32_400
  let c0_i32_401 : BitVec 32 := 0#32
  let v522 : BitVec 1 := Scalar.cmpi .slt v518 c0_i32_401
  let v523 : BitVec 1 := Scalar.xori v521 v522
  let c0_i32_399 : BitVec 32 := 0#32
  let v520 : BitVec 1 := Scalar.cmpi .ne v519 c0_i32_399
  let v524 : BitVec 1 := Scalar.andi v523 v520
  let v525 : BitVec 32 := Scalar.addi v519 v518
  let v526 : BitVec 32 := Scalar.select v524 v525 v519
  let c1_i32_407 : BitVec 32 := 1#32
  let v527 : BitVec 32 := Scalar.muli v526 c1_i32_407
  let v528 : BitVec 32 := Scalar.addi c0_i32_408 v527
  v528.toNat
def k0_dev24 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_413 : BitVec 32 := 3#32
  let v536 : BitVec 32 := Scalar.addi v2 c3_i32_413
  let c8_i32_414 : BitVec 32 := 8#32
  let c0_i32_415 : BitVec 32 := 0#32
  let v537 : BitVec 1 := Scalar.cmpi .eq c8_i32_414 c0_i32_415
  let c1_i32_416 : BitVec 32 := 1#32
  let v538 : BitVec 32 := Scalar.select v537 c1_i32_416 c8_i32_414
  let v539 : BitVec 32 := Scalar.remsi v536 v538
  let c0_i32_418 : BitVec 32 := 0#32
  let v541 : BitVec 1 := Scalar.cmpi .slt v539 c0_i32_418
  let c0_i32_419 : BitVec 32 := 0#32
  let v542 : BitVec 1 := Scalar.cmpi .slt v538 c0_i32_419
  let v543 : BitVec 1 := Scalar.xori v541 v542
  let c0_i32_417 : BitVec 32 := 0#32
  let v540 : BitVec 1 := Scalar.cmpi .ne v539 c0_i32_417
  let v544 : BitVec 1 := Scalar.andi v543 v540
  let v545 : BitVec 32 := Scalar.addi v539 v538
  let v546 : BitVec 32 := Scalar.select v544 v545 v539
  let c1_i32_425 : BitVec 32 := 1#32
  let v547 : BitVec 32 := Scalar.muli v546 c1_i32_425
  let v548 : BitVec 32 := Scalar.addi c0_i32_426 v547
  v548.toNat
def k0_dev25 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_431 : BitVec 32 := 4#32
  let v556 : BitVec 32 := Scalar.addi v2 c4_i32_431
  let c8_i32_432 : BitVec 32 := 8#32
  let c0_i32_433 : BitVec 32 := 0#32
  let v557 : BitVec 1 := Scalar.cmpi .eq c8_i32_432 c0_i32_433
  let c1_i32_434 : BitVec 32 := 1#32
  let v558 : BitVec 32 := Scalar.select v557 c1_i32_434 c8_i32_432
  let v559 : BitVec 32 := Scalar.remsi v556 v558
  let c0_i32_436 : BitVec 32 := 0#32
  let v561 : BitVec 1 := Scalar.cmpi .slt v559 c0_i32_436
  let c0_i32_437 : BitVec 32 := 0#32
  let v562 : BitVec 1 := Scalar.cmpi .slt v558 c0_i32_437
  let v563 : BitVec 1 := Scalar.xori v561 v562
  let c0_i32_435 : BitVec 32 := 0#32
  let v560 : BitVec 1 := Scalar.cmpi .ne v559 c0_i32_435
  let v564 : BitVec 1 := Scalar.andi v563 v560
  let v565 : BitVec 32 := Scalar.addi v559 v558
  let v566 : BitVec 32 := Scalar.select v564 v565 v559
  let c1_i32_443 : BitVec 32 := 1#32
  let v567 : BitVec 32 := Scalar.muli v566 c1_i32_443
  let v568 : BitVec 32 := Scalar.addi c0_i32_444 v567
  v568.toNat
def k0_dev26 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_449 : BitVec 32 := 5#32
  let v576 : BitVec 32 := Scalar.addi v2 c5_i32_449
  let c8_i32_450 : BitVec 32 := 8#32
  let c0_i32_451 : BitVec 32 := 0#32
  let v577 : BitVec 1 := Scalar.cmpi .eq c8_i32_450 c0_i32_451
  let c1_i32_452 : BitVec 32 := 1#32
  let v578 : BitVec 32 := Scalar.select v577 c1_i32_452 c8_i32_450
  let v579 : BitVec 32 := Scalar.remsi v576 v578
  let c0_i32_454 : BitVec 32 := 0#32
  let v581 : BitVec 1 := Scalar.cmpi .slt v579 c0_i32_454
  let c0_i32_455 : BitVec 32 := 0#32
  let v582 : BitVec 1 := Scalar.cmpi .slt v578 c0_i32_455
  let v583 : BitVec 1 := Scalar.xori v581 v582
  let c0_i32_453 : BitVec 32 := 0#32
  let v580 : BitVec 1 := Scalar.cmpi .ne v579 c0_i32_453
  let v584 : BitVec 1 := Scalar.andi v583 v580
  let v585 : BitVec 32 := Scalar.addi v579 v578
  let v586 : BitVec 32 := Scalar.select v584 v585 v579
  let c1_i32_461 : BitVec 32 := 1#32
  let v587 : BitVec 32 := Scalar.muli v586 c1_i32_461
  let v588 : BitVec 32 := Scalar.addi c0_i32_462 v587
  v588.toNat
def k0_dev27 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_467 : BitVec 32 := 6#32
  let v596 : BitVec 32 := Scalar.addi v2 c6_i32_467
  let c8_i32_468 : BitVec 32 := 8#32
  let c0_i32_469 : BitVec 32 := 0#32
  let v597 : BitVec 1 := Scalar.cmpi .eq c8_i32_468 c0_i32_469
  let c1_i32_470 : BitVec 32 := 1#32
  let v598 : BitVec 32 := Scalar.select v597 c1_i32_470 c8_i32_468
  let v599 : BitVec 32 := Scalar.remsi v596 v598
  let c0_i32_472 : BitVec 32 := 0#32
  let v601 : BitVec 1 := Scalar.cmpi .slt v599 c0_i32_472
  let c0_i32_473 : BitVec 32 := 0#32
  let v602 : BitVec 1 := Scalar.cmpi .slt v598 c0_i32_473
  let v603 : BitVec 1 := Scalar.xori v601 v602
  let c0_i32_471 : BitVec 32 := 0#32
  let v600 : BitVec 1 := Scalar.cmpi .ne v599 c0_i32_471
  let v604 : BitVec 1 := Scalar.andi v603 v600
  let v605 : BitVec 32 := Scalar.addi v599 v598
  let v606 : BitVec 32 := Scalar.select v604 v605 v599
  let c1_i32_479 : BitVec 32 := 1#32
  let v607 : BitVec 32 := Scalar.muli v606 c1_i32_479
  let v608 : BitVec 32 := Scalar.addi c0_i32_480 v607
  v608.toNat
def k0_dev28 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_485 : BitVec 32 := 7#32
  let v616 : BitVec 32 := Scalar.addi v2 c7_i32_485
  let c8_i32_486 : BitVec 32 := 8#32
  let c0_i32_487 : BitVec 32 := 0#32
  let v617 : BitVec 1 := Scalar.cmpi .eq c8_i32_486 c0_i32_487
  let c1_i32_488 : BitVec 32 := 1#32
  let v618 : BitVec 32 := Scalar.select v617 c1_i32_488 c8_i32_486
  let v619 : BitVec 32 := Scalar.remsi v616 v618
  let c0_i32_490 : BitVec 32 := 0#32
  let v621 : BitVec 1 := Scalar.cmpi .slt v619 c0_i32_490
  let c0_i32_491 : BitVec 32 := 0#32
  let v622 : BitVec 1 := Scalar.cmpi .slt v618 c0_i32_491
  let v623 : BitVec 1 := Scalar.xori v621 v622
  let c0_i32_489 : BitVec 32 := 0#32
  let v620 : BitVec 1 := Scalar.cmpi .ne v619 c0_i32_489
  let v624 : BitVec 1 := Scalar.andi v623 v620
  let v625 : BitVec 32 := Scalar.addi v619 v618
  let v626 : BitVec 32 := Scalar.select v624 v625 v619
  let c1_i32_497 : BitVec 32 := 1#32
  let v627 : BitVec 32 := Scalar.muli v626 c1_i32_497
  let v628 : BitVec 32 := Scalar.addi c0_i32_498 v627
  v628.toNat
def k0_dev29 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_523 : BitVec 32 := 1#32
  let v676 : BitVec 32 := Scalar.addi v2 c1_i32_523
  let c8_i32_524 : BitVec 32 := 8#32
  let c0_i32_525 : BitVec 32 := 0#32
  let v677 : BitVec 1 := Scalar.cmpi .eq c8_i32_524 c0_i32_525
  let c1_i32_526 : BitVec 32 := 1#32
  let v678 : BitVec 32 := Scalar.select v677 c1_i32_526 c8_i32_524
  let v679 : BitVec 32 := Scalar.remsi v676 v678
  let c0_i32_528 : BitVec 32 := 0#32
  let v681 : BitVec 1 := Scalar.cmpi .slt v679 c0_i32_528
  let c0_i32_529 : BitVec 32 := 0#32
  let v682 : BitVec 1 := Scalar.cmpi .slt v678 c0_i32_529
  let v683 : BitVec 1 := Scalar.xori v681 v682
  let c0_i32_527 : BitVec 32 := 0#32
  let v680 : BitVec 1 := Scalar.cmpi .ne v679 c0_i32_527
  let v684 : BitVec 1 := Scalar.andi v683 v680
  let v685 : BitVec 32 := Scalar.addi v679 v678
  let v686 : BitVec 32 := Scalar.select v684 v685 v679
  let c1_i32_535 : BitVec 32 := 1#32
  let v687 : BitVec 32 := Scalar.muli v686 c1_i32_535
  let v688 : BitVec 32 := Scalar.addi c0_i32_536 v687
  v688.toNat
def k0_dev30 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_540 : BitVec 32 := 2#32
  let v696 : BitVec 32 := Scalar.addi v2 c2_i32_540
  let c8_i32_541 : BitVec 32 := 8#32
  let c0_i32_542 : BitVec 32 := 0#32
  let v697 : BitVec 1 := Scalar.cmpi .eq c8_i32_541 c0_i32_542
  let c1_i32_543 : BitVec 32 := 1#32
  let v698 : BitVec 32 := Scalar.select v697 c1_i32_543 c8_i32_541
  let v699 : BitVec 32 := Scalar.remsi v696 v698
  let c0_i32_545 : BitVec 32 := 0#32
  let v701 : BitVec 1 := Scalar.cmpi .slt v699 c0_i32_545
  let c0_i32_546 : BitVec 32 := 0#32
  let v702 : BitVec 1 := Scalar.cmpi .slt v698 c0_i32_546
  let v703 : BitVec 1 := Scalar.xori v701 v702
  let c0_i32_544 : BitVec 32 := 0#32
  let v700 : BitVec 1 := Scalar.cmpi .ne v699 c0_i32_544
  let v704 : BitVec 1 := Scalar.andi v703 v700
  let v705 : BitVec 32 := Scalar.addi v699 v698
  let v706 : BitVec 32 := Scalar.select v704 v705 v699
  let c1_i32_552 : BitVec 32 := 1#32
  let v707 : BitVec 32 := Scalar.muli v706 c1_i32_552
  let v708 : BitVec 32 := Scalar.addi c0_i32_553 v707
  v708.toNat
def k0_dev31 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_558 : BitVec 32 := 3#32
  let v716 : BitVec 32 := Scalar.addi v2 c3_i32_558
  let c8_i32_559 : BitVec 32 := 8#32
  let c0_i32_560 : BitVec 32 := 0#32
  let v717 : BitVec 1 := Scalar.cmpi .eq c8_i32_559 c0_i32_560
  let c1_i32_561 : BitVec 32 := 1#32
  let v718 : BitVec 32 := Scalar.select v717 c1_i32_561 c8_i32_559
  let v719 : BitVec 32 := Scalar.remsi v716 v718
  let c0_i32_563 : BitVec 32 := 0#32
  let v721 : BitVec 1 := Scalar.cmpi .slt v719 c0_i32_563
  let c0_i32_564 : BitVec 32 := 0#32
  let v722 : BitVec 1 := Scalar.cmpi .slt v718 c0_i32_564
  let v723 : BitVec 1 := Scalar.xori v721 v722
  let c0_i32_562 : BitVec 32 := 0#32
  let v720 : BitVec 1 := Scalar.cmpi .ne v719 c0_i32_562
  let v724 : BitVec 1 := Scalar.andi v723 v720
  let v725 : BitVec 32 := Scalar.addi v719 v718
  let v726 : BitVec 32 := Scalar.select v724 v725 v719
  let c1_i32_570 : BitVec 32 := 1#32
  let v727 : BitVec 32 := Scalar.muli v726 c1_i32_570
  let v728 : BitVec 32 := Scalar.addi c0_i32_571 v727
  v728.toNat
def k0_dev32 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_576 : BitVec 32 := 4#32
  let v736 : BitVec 32 := Scalar.addi v2 c4_i32_576
  let c8_i32_577 : BitVec 32 := 8#32
  let c0_i32_578 : BitVec 32 := 0#32
  let v737 : BitVec 1 := Scalar.cmpi .eq c8_i32_577 c0_i32_578
  let c1_i32_579 : BitVec 32 := 1#32
  let v738 : BitVec 32 := Scalar.select v737 c1_i32_579 c8_i32_577
  let v739 : BitVec 32 := Scalar.remsi v736 v738
  let c0_i32_581 : BitVec 32 := 0#32
  let v741 : BitVec 1 := Scalar.cmpi .slt v739 c0_i32_581
  let c0_i32_582 : BitVec 32 := 0#32
  let v742 : BitVec 1 := Scalar.cmpi .slt v738 c0_i32_582
  let v743 : BitVec 1 := Scalar.xori v741 v742
  let c0_i32_580 : BitVec 32 := 0#32
  let v740 : BitVec 1 := Scalar.cmpi .ne v739 c0_i32_580
  let v744 : BitVec 1 := Scalar.andi v743 v740
  let v745 : BitVec 32 := Scalar.addi v739 v738
  let v746 : BitVec 32 := Scalar.select v744 v745 v739
  let c1_i32_588 : BitVec 32 := 1#32
  let v747 : BitVec 32 := Scalar.muli v746 c1_i32_588
  let v748 : BitVec 32 := Scalar.addi c0_i32_589 v747
  v748.toNat
def k0_dev33 (d0 : Dev nD) : Nat :=
  let c0_i32_607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_594 : BitVec 32 := 5#32
  let v756 : BitVec 32 := Scalar.addi v2 c5_i32_594
  let c8_i32_595 : BitVec 32 := 8#32
  let c0_i32_596 : BitVec 32 := 0#32
  let v757 : BitVec 1 := Scalar.cmpi .eq c8_i32_595 c0_i32_596
  let c1_i32_597 : BitVec 32 := 1#32
  let v758 : BitVec 32 := Scalar.select v757 c1_i32_597 c8_i32_595
  let v759 : BitVec 32 := Scalar.remsi v756 v758
  let c0_i32_599 : BitVec 32 := 0#32
  let v761 : BitVec 1 := Scalar.cmpi .slt v759 c0_i32_599
  let c0_i32_600 : BitVec 32 := 0#32
  let v762 : BitVec 1 := Scalar.cmpi .slt v758 c0_i32_600
  let v763 : BitVec 1 := Scalar.xori v761 v762
  let c0_i32_598 : BitVec 32 := 0#32
  let v760 : BitVec 1 := Scalar.cmpi .ne v759 c0_i32_598
  let v764 : BitVec 1 := Scalar.andi v763 v760
  let v765 : BitVec 32 := Scalar.addi v759 v758
  let v766 : BitVec 32 := Scalar.select v764 v765 v759
  let c1_i32_606 : BitVec 32 := 1#32
  let v767 : BitVec 32 := Scalar.muli v766 c1_i32_606
  let v768 : BitVec 32 := Scalar.addi c0_i32_607 v767
  v768.toNat
def k0_dev34 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_612 : BitVec 32 := 6#32
  let v776 : BitVec 32 := Scalar.addi v2 c6_i32_612
  let c8_i32_613 : BitVec 32 := 8#32
  let c0_i32_614 : BitVec 32 := 0#32
  let v777 : BitVec 1 := Scalar.cmpi .eq c8_i32_613 c0_i32_614
  let c1_i32_615 : BitVec 32 := 1#32
  let v778 : BitVec 32 := Scalar.select v777 c1_i32_615 c8_i32_613
  let v779 : BitVec 32 := Scalar.remsi v776 v778
  let c0_i32_617 : BitVec 32 := 0#32
  let v781 : BitVec 1 := Scalar.cmpi .slt v779 c0_i32_617
  let c0_i32_618 : BitVec 32 := 0#32
  let v782 : BitVec 1 := Scalar.cmpi .slt v778 c0_i32_618
  let v783 : BitVec 1 := Scalar.xori v781 v782
  let c0_i32_616 : BitVec 32 := 0#32
  let v780 : BitVec 1 := Scalar.cmpi .ne v779 c0_i32_616
  let v784 : BitVec 1 := Scalar.andi v783 v780
  let v785 : BitVec 32 := Scalar.addi v779 v778
  let v786 : BitVec 32 := Scalar.select v784 v785 v779
  let c1_i32_624 : BitVec 32 := 1#32
  let v787 : BitVec 32 := Scalar.muli v786 c1_i32_624
  let v788 : BitVec 32 := Scalar.addi c0_i32_625 v787
  v788.toNat
def k0_dev35 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_630 : BitVec 32 := 7#32
  let v796 : BitVec 32 := Scalar.addi v2 c7_i32_630
  let c8_i32_631 : BitVec 32 := 8#32
  let c0_i32_632 : BitVec 32 := 0#32
  let v797 : BitVec 1 := Scalar.cmpi .eq c8_i32_631 c0_i32_632
  let c1_i32_633 : BitVec 32 := 1#32
  let v798 : BitVec 32 := Scalar.select v797 c1_i32_633 c8_i32_631
  let v799 : BitVec 32 := Scalar.remsi v796 v798
  let c0_i32_635 : BitVec 32 := 0#32
  let v801 : BitVec 1 := Scalar.cmpi .slt v799 c0_i32_635
  let c0_i32_636 : BitVec 32 := 0#32
  let v802 : BitVec 1 := Scalar.cmpi .slt v798 c0_i32_636
  let v803 : BitVec 1 := Scalar.xori v801 v802
  let c0_i32_634 : BitVec 32 := 0#32
  let v800 : BitVec 1 := Scalar.cmpi .ne v799 c0_i32_634
  let v804 : BitVec 1 := Scalar.andi v803 v800
  let v805 : BitVec 32 := Scalar.addi v799 v798
  let v806 : BitVec 32 := Scalar.select v804 v805 v799
  let c1_i32_642 : BitVec 32 := 1#32
  let v807 : BitVec 32 := Scalar.muli v806 c1_i32_642
  let v808 : BitVec 32 := Scalar.addi c0_i32_643 v807
  v808.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x8192 : Shape := ⟨2, ![2048, 8192]⟩
abbrev S_ : Shape := ⟨0, ![]⟩
abbrev S2048 : Shape := ⟨1, ![2048]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .f32⟩
  | .hbm, ⟨2, _⟩ => ⟨S_, .f32⟩
  | .hbm, ⟨3, _⟩ => ⟨S2048, .f32⟩
  | .hbm, ⟨4, _⟩ => ⟨S2048x1, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x8192, .f32⟩
  | .hbm, ⟨12, _⟩ => ⟨S2048x8192, .f32⟩
  | .hbm, ⟨13, _⟩ => ⟨S2048x8192, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Shape.lean ====
/- The kernel body as a program of four loops.

   The printed body is one straight line of 228 effects. Read with its indices it is: a round of
   signals to the seven peers; for each group of four row blocks, the four row blocks' exponentials
   and row sums, and a copy of the group's sums to each peer (a wait at the barrier stands before the
   first copy); then, for each group, the waits of its fourteen copies and the four row blocks'
   quotients. `prog` is that program, with the indices as variables. -/
module

public import proofs.«01_k».proof.Proof.Gen.KernelIdeal.Skeleton
public import proofs.«01_k».proof.Proof.Gen.KernelIdeal.Points

@[expose] public section

noncomputable section

namespace Cert.Softmax

open Idealize.ShloMosaic Idealize.SL.Sem Cert.KernelIdeal Cert.KernelIdeal.Gen

variable {F : FTy → Type} [FloatOps F]

/-- One device's program. -/
abbrev DevProg (F : FTy → Type) (α : Type) := Prog (TpuEff nD τ sig (Elt F) Λ₀ .tc) α

/-- `f 0`, then `f 1`, …, then `f (n - 1)`. -/
def forN : (n : ℕ) → (Fin n → DevProg F PUnit) → DevProg F PUnit
  | 0, _ => .ret ⟨⟩
  | n + 1, f => f 0 >>= fun _ => forN n fun k => f k.succ

/-! ## What is stored -/

/-- The exponentials of a block of rows. -/
def expOf (x : Vec F S128x1024 .bf16) : FVec F S128x1024 .bf16 := k0_pay4 x

/-- The sums along the rows of a block's exponentials. -/
def sumOf (x : Vec F S128x1024 .bf16) : FVec F S1x128 .f32 := k0_pay5 k0_pay2 x

/-- The reciprocals of a group's total sums: own sums and the seven received. -/
def recipOf (s : Vec F S4x128 .f32) (w : Vec F S7x4x128 .f32) : FVec F S4x128 .f32 := k0_pay53 s w

theorem slice4 (j : Fin 4) : S4x128.Slices ![(j : ℕ), 0] S1x128 := by revert j; decide

/-- The quotients of row block `j` of a group: its exponentials by its rows' reciprocals. -/
def quotOf (j : Fin 4) (s : Vec F S4x128 .f32) (w : Vec F S7x4x128 .f32) (e : Vec F S128x1024 .bf16) :
    FVec F S128x1024 .bf16 :=
  truncf .bf16 (shapeCast S128x1024 (mulf
    (extf .f32 (shapeCast S1x128x1024 e shapeCasts_S128x1024_S1x128x1024 : FVec F S1x128x1024 .bf16) bitsLt_bf16_f32)
    (broadcastTo S1x128x1024 (shapeCast S1x128x1
      (extractStridedSlice S1x128 ![(j : ℕ), 0] (recipOf s w) (slice4 j)) shapeCasts_S1x128_S1x128x1)
      broadcasts_S1x128x1_S1x128x1024)) shapeCasts_S1x128x1024_S128x1024) bitsLt_bf16_f32

/-! ## Where it is stored -/

/-- The row block with group `g` and place `j` in it. -/
def blk (g j : Fin 4) : ℕ := 4 * g + j

theorem blk_lt (g j : Fin 4) : blk g j < 16 := by unfold blk; omega

theorem inbX (g j : Fin 4) : ∀ a, (![128 * blk g j, 0] : Fin 2 → ℕ) a + S128x1024.size a ≤ S2048x1024.size a := by
  revert g j; decide
theorem packX (g j : Fin 4) : (Rect.unit (s := S2048x1024) ![128 * blk g j, 0] S128x1024.size (inbX g j)).PackedRows
    (EltTy.packing .bf16) := by revert g j; decide
theorem inbS (g j : Fin 4) : ∀ a, (![blk g j, 0] : Fin 2 → ℕ) a + S1x128.size a ≤ S16x128.size a := by
  revert g j; decide
theorem inbG (g : Fin 4) : ∀ a, (![4 * (g : ℕ), 0] : Fin 2 → ℕ) a + S4x128.size a ≤ S16x128.size a := by
  revert g; decide
theorem inbW (g : Fin 4) : ∀ a, (![0, 4 * (g : ℕ), 0] : Fin 3 → ℕ) a + S7x4x128.size a ≤ S7x16x128.size a := by
  revert g; decide
theorem inbD (g : Fin 4) (d : Fin 7) : ∀ a, (![(d : ℕ), 4 * (g : ℕ), 0] : Fin 3 → ℕ) a + S1x4x128.size a ≤ S7x16x128.size a := by
  revert g d; decide
theorem inbQ (g : Fin 4) (d : Fin 7) : ∀ a, (![(g : ℕ), (d : ℕ)] : Fin 2 → ℕ) a + S1x1.size a ≤ S4x7.size a := by
  revert g d; decide

/-- Block `(g, j)` of 128 rows of a [2048, 1024] array. -/
abbrev rX (g j : Fin 4) : Rect S2048x1024 := Rect.unit (s := S2048x1024) ![128 * blk g j, 0] S128x1024.size (inbX g j)
/-- Row `(g, j)` of the sums. -/
abbrev rS (g j : Fin 4) : Rect S16x128 := Rect.unit (s := S16x128) ![blk g j, 0] S1x128.size (inbS g j)
/-- Group `g`'s four rows of the sums. -/
abbrev rG (g : Fin 4) : Rect S16x128 := Rect.unit (s := S16x128) ![4 * (g : ℕ), 0] S4x128.size (inbG g)
/-- Group `g`'s four rows of every received slot. -/
abbrev rW (g : Fin 4) : Rect S7x16x128 := Rect.unit (s := S7x16x128) ![0, 4 * (g : ℕ), 0] S7x4x128.size (inbW g)
/-- Group `g`'s four rows of received slot `d`. -/
abbrev rD (g : Fin 4) (d : Fin 7) : Rect S7x16x128 :=
  Rect.unit (s := S7x16x128) ![(d : ℕ), 4 * (g : ℕ), 0] S1x4x128.size (inbD g d)

/-- Semaphore `(g, d)` of an array of 4 by 7. -/
abbrev semAt (a : DmaSems sig S4x7) (g : Fin 4) (d : Fin 7) : DmaSem sig :=
  ((a.slice (Rect.unit (s := S4x7) ![(g : ℕ), (d : ℕ)] S1x1.size (inbQ g d))).squeeze S_ squeezes_S1x1_S_).sem

/-- The rows a copy of group `g` reads. -/
abbrev srcOf (a : Memref sig .tc .vmem S16x128 .f32) (g : Fin 4) : Memref sig .tc .vmem S4x128 .f32 :=
  a.slice (rG g) fun _ => rfl
/-- The rows copy `(g, d)` writes. -/
abbrev dstOf (a : Memref sig .tc .vmem S7x16x128 .f32) (g : Fin 4) (d : Fin 7) : Memref sig .tc .vmem S4x128 .f32 :=
  (a.slice (rD g d) fun _ => rfl).squeeze S4x128 squeezes_S1x4x128_S4x128

/-- The barrier's semaphore. -/
abbrev barSem : Sem sig := (SemArray.scalar (sig.barrier 0 rfl) : Sems sig S_).sem

/-- The device `d + 1` places after `c` on the ring, as the body computes it. -/
def peer (c : Dev nD) : Fin 7 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩

/-! ## The loops' bodies -/

section
variable (a0 a1 a2 : Memref sig .tc .vmem S2048x1024 .bf16) (h1 : a1.IsWhole) (h2 : a2.IsWhole)
  (a3 : Memref sig .tc .vmem S16x128 .f32) (a4 : Memref sig .tc .vmem S7x16x128 .f32) (a5 a6 : DmaSems sig S4x7)

/-- Tell peer `d` that this device has started. -/
def signalP (c : Dev nD) (d : Fin 7) : DevProg F PUnit :=
  semSignalWord (peer c d) barSem 1#32

/-- Row block `(g, j)`: its exponentials and its sums. -/
def rowP (g j : Fin 4) : DevProg F PUnit := do
  let x : Vec F S128x1024 .bf16 ← Prog.lift (.load a0 (rX g j).toLoadRect (View.loadsAt_vmem h_S128x1024))
  let _e : Vec F S128x1024 .bf16 ← Prog.lift (.load a2 (rX g j).toLoadRect (View.loadsAt_vmem h_S128x1024))
  Prog.lift (.store a2 (rX g j) (expOf x) Finset.univ
    (View.stores_vmem h_S128x1024 (h2.storeExact_slice rfl _ (packX g j)) (fun _ => rfl)) (.inl rfl))
  let _s : Vec F S1x128 .f32 ← Prog.lift (.load a3 (rS g j).toLoadRect (View.loadsAt_vmem h_S1x128))
  Prog.lift (.store a3 (rS g j) (sumOf x) Finset.univ (View.stores_vmem_bits_univ h_S1x128 rfl) (.inl rfl))

/-- Start copying group `g`'s sums to peer `d`. -/
def sendP (c : Dev nD) (g : Fin 4) (d : Fin 7) : DevProg F PUnit :=
  Prog.lift (.enqueueDma (srcOf a3 g) (.remote (Dev.tc (peer c d)) (dstOf a4 g d) (.dma (semAt a5 g d))) (.dma (semAt a6 g d))
    (View.wordExact_bits rfl) ((View.wordExact_bits rfl).reshape _ _) ⟨⟨rfl, Or.inl rfl⟩, trivial⟩)

/-- Wait for copy `(g, d)` to leave, and for the one that arrives in its slot. -/
def waitP (g : Fin 4) (d : Fin 7) : DevProg F PUnit := do
  Prog.lift (.waitDma2 (semAt a5 g d) (dstOf a4 g d) (srcOf a3 g) ((View.wordExact_bits rfl).reshape _ _) (View.wordExact_bits rfl))
  Prog.lift (.waitDma2 (semAt a6 g d) (srcOf a3 g) (dstOf a4 g d) (View.wordExact_bits rfl) ((View.wordExact_bits rfl).reshape _ _))

/-- Row block `(g, j)`: its quotients, given the group's sums. -/
def quotP (s : Vec F S4x128 .f32) (w : Vec F S7x4x128 .f32) (g j : Fin 4) : DevProg F PUnit := do
  let e : Vec F S128x1024 .bf16 ← Prog.lift (.load a2 (rX g j).toLoadRect (View.loadsAt_vmem h_S128x1024))
  let _o : Vec F S128x1024 .bf16 ← Prog.lift (.load a1 (rX g j).toLoadRect (View.loadsAt_vmem h_S128x1024))
  Prog.lift (.store a1 (rX g j) (quotOf j s w e) Finset.univ
    (View.stores_vmem h_S128x1024 (h1.storeExact_slice rfl _ (packX g j)) (fun _ => rfl)) (.inl rfl))

/-- Group `g`'s four row blocks. -/
def rowsP (g : Fin 4) : DevProg F PUnit := forN 4 (rowP a0 a2 h2 a3 g)

/-- Group `g`'s seven copies. -/
def sendsP (c : Dev nD) (g : Fin 4) : DevProg F PUnit := forN 7 (sendP a3 a4 a5 a6 c g)

/-- Group `g`, second half: the waits, and the quotients. -/
def finishP (g : Fin 4) : DevProg F PUnit := do
  forN 7 (waitP a3 a4 a5 a6 g)
  let s : Vec F S4x128 .f32 ← Prog.lift (.load a3 (rG g).toLoadRect (View.loadsAt_vmem h_S4x128))
  let w : Vec F S7x4x128 .f32 ← Prog.lift (.load a4 (rW g).toLoadRect (View.loadsAt_vmem h_S7x4x128))
  forN 4 (quotP a1 a2 h1 s w g)

/-- The whole body. -/
def prog : DevProg F PUnit := do
  let c : Dev nD ← Prog.lift .deviceId
  forN 7 (signalP c)
  rowsP a0 a2 h2 a3 0
  semWaitWord barSem 7#32
  sendsP a3 a4 a5 a6 c 0
  forN 3 fun g => do
    rowsP a0 a2 h2 a3 g.succ
    sendsP a3 a4 a5 a6 c g.succ
  forN 4 (finishP a1 a2 h1 a3 a4 a5 a6)

end

set_option maxHeartbeats 0 in
set_option maxRecDepth 65536 in
/-- The printed body is `prog`. -/
theorem body_eq_prog (a0 : Memref sig .tc .vmem S2048x1024 .bf16) (h0 : a0.IsWhole) (a1 : Memref sig .tc .vmem S2048x1024 .bf16)
    (h1 : a1.IsWhole) (a2 : Memref sig .tc .vmem S2048x1024 .bf16) (h2 : a2.IsWhole) (a3 : Memref sig .tc .vmem S16x128 .f32)
    (h3 : a3.IsWhole) (a4 : Memref sig .tc .vmem S7x16x128 .f32) (h4 : a4.IsWhole) (a5 a6 : DmaSems sig S4x7) :
    cc0_body (F := F) a0 h0 a1 h1 a2 h2 a3 h3 a4 h4 a5 a6 = prog a0 a1 a2 h1 h2 a3 a4 a5 a6 := rfl

end Cert.Softmax

end
-- ==== Proof.Geo.lean ====
/- Which elements each loop body touches, and what the buffers hold afterwards.

   Every array is cut into regions by one number of its index: the [2048, 1024] arrays into sixteen
   blocks of rows, the sums into four groups of rows, the received sums into a group and a slot. -/
module

public import proofs.«01_k».proof.Proof.Shape
public import Idealize.ShloMosaic.Lib.ValueLayout
public import Idealize.ShloMosaic.Lib.ValueIdxCore
public import Idealize.ShloMosaic.Lib.Pipeline.ValueKit.Geometry

@[expose] public section

noncomputable section

namespace Cert.Softmax

open Idealize.ShloMosaic Idealize.SL.Sem Cert.KernelIdeal Cert.KernelIdeal.Gen
open Idealize.ShloMosaic.ValueIdx (ix2 ix3 eq_ix2 eq_ix3)

variable {F : FTy → Type} [FloatOps F]

/-! ## The buffers -/

abbrev xM : Memref sig .tc .vmem S2048x1024 .bf16 := Memref.whole cc0_stg0_0
abbrev oM : Memref sig .tc .vmem S2048x1024 .bf16 := Memref.whole cc0_stg1_0
abbrev eM : Memref sig .tc .vmem S2048x1024 .bf16 := Memref.whole cc0_scratch0
abbrev sM : Memref sig .tc .vmem S16x128 .f32 := Memref.whole cc0_scratch1
abbrev wM : Memref sig .tc .vmem S7x16x128 .f32 := Memref.whole cc0_scratch2

/-! ## Coordinates -/

/-- The group, and the place in the group, of a row block. -/
def gOf (n : ℕ) : Fin 4 := ⟨n / 4 % 4, Nat.mod_lt _ (by decide)⟩
def jOf (n : ℕ) : Fin 4 := ⟨n % 4, Nat.mod_lt _ (by decide)⟩
/-- The row of a block. -/
def rOf (n : ℕ) : Fin 128 := ⟨n % 128, Nat.mod_lt _ (by decide)⟩

theorem gOf_eq (g j : Fin 4) {n : ℕ} (h : n = 4 * (g : ℕ) + j) : gOf n = g := Fin.ext (by simp only [gOf]; omega)
theorem jOf_eq (g j : Fin 4) {n : ℕ} (h : n = 4 * (g : ℕ) + j) : jOf n = j := Fin.ext (by simp only [jOf]; omega)
theorem rOf_eq (b : ℕ) (r : Fin 128) {n : ℕ} (h : n = 128 * b + r) : rOf n = r := Fin.ext (by simp only [rOf]; omega)

/-- Rows of a [2048, 1024] array by block, rows of the sums by group, received sums by group and slot. -/
def kX (i : S2048x1024.Idx) : Fin 4 × Fin 4 := (gOf ((i 0).val / 128), jOf ((i 0).val / 128))
def kG (i : S16x128.Idx) : Fin 4 := gOf (i 0).val
def kD (i : S7x16x128.Idx) : Fin 4 × Fin 7 := (gOf (i 1).val, i 0)

theorem mem_rX (g j : Fin 4) (i : S2048x1024.Idx) : i ∈ (rX g j).set ↔ kX i = (g, j) := by
  have h0 : (i 0).val < 2048 := (i 0).isLt
  have h1 : (i 1).val < 1024 := (i 1).isLt
  rw [Rect.mem_set_unit, Fin.forall_fin_two]
  show (128 * blk g j ≤ (i 0).val ∧ (i 0).val < 128 * blk g j + 128) ∧ (0 ≤ (i 1).val ∧ (i 1).val < 0 + 1024) ↔ _
  simp only [kX, Prod.mk.injEq, Fin.ext_iff, gOf, jOf, blk]
  omega

theorem mem_rG (g : Fin 4) (i : S16x128.Idx) : i ∈ (rG g).set ↔ kG i = g := by
  have h0 : (i 0).val < 16 := (i 0).isLt
  have h1 : (i 1).val < 128 := (i 1).isLt
  rw [Rect.mem_set_unit, Fin.forall_fin_two]
  show (4 * (g : ℕ) ≤ (i 0).val ∧ (i 0).val < 4 * (g : ℕ) + 4) ∧ (0 ≤ (i 1).val ∧ (i 1).val < 0 + 128) ↔ _
  simp only [kG, Fin.ext_iff, gOf]
  omega

theorem mem_rD (g : Fin 4) (d : Fin 7) (i : S7x16x128.Idx) : i ∈ (rD g d).set ↔ kD i = (g, d) := by
  have h1 : (i 1).val < 16 := (i 1).isLt
  have h2 : (i 2).val < 128 := (i 2).isLt
  rw [Rect.mem_set_unit, Fin.forall_fin_succ, Fin.forall_fin_two]
  show ((d : ℕ) ≤ (i 0).val ∧ (i 0).val < d + 1) ∧ (4 * (g : ℕ) ≤ (i 1).val ∧ (i 1).val < 4 * (g : ℕ) + 4)
    ∧ (0 ≤ (i 2).val ∧ (i 2).val < 0 + 128) ↔ _
  have e : kD i = (g, d) ↔ (i 1).val / 4 % 4 = (g : ℕ) ∧ (i 0).val = (d : ℕ) :=
    ⟨fun h => ⟨congrArg (fun p => p.1.val) h, congrArg (fun p => p.2.val) h⟩, fun h => Prod.ext (Fin.ext h.1) (Fin.ext h.2)⟩
  rw [e]
  omega

/-- A group's rows of every slot lie in the group's seven regions. -/
theorem mem_rW (g : Fin 4) (i : S7x16x128.Idx) (h : i ∈ (rW g).set) : kD i = (g, i 0) := by
  have h1 : 4 * (g : ℕ) ≤ (i 1).val ∧ (i 1).val < 4 * (g : ℕ) + 4 := (Rect.mem_set_unit.mp h) 1
  refine Prod.ext (Fin.ext ?_) rfl
  simp only [kD, gOf]
  omega

theorem rS_subset (g j : Fin 4) : (rS g j).set ⊆ (rG g).set := by
  intro i h
  have h0 : blk g j ≤ (i 0).val ∧ (i 0).val < blk g j + 1 := (Rect.mem_set_unit.mp h) 0
  rw [mem_rG]
  refine Fin.ext ?_
  simp only [kG, gOf]
  unfold blk at *
  omega

theorem setX_x (g j : Fin 4) : (xM.access (rX g j)).set = (rX g j).set := View.set_slice_whole _ _
theorem setX_e (g j : Fin 4) : (eM.access (rX g j)).set = (rX g j).set := View.set_slice_whole _ _
theorem setX_o (g j : Fin 4) : (oM.access (rX g j)).set = (rX g j).set := View.set_slice_whole _ _
theorem setS (g j : Fin 4) : (sM.access (rS g j)).set = (rS g j).set := View.set_slice_whole _ _
theorem setG (g : Fin 4) : (sM.access (rG g)).set = (rG g).set := View.set_slice_whole _ _
theorem setG' (g : Fin 4) : (srcOf sM g).view.set = (rG g).set := View.set_slice_whole _ _
theorem setW (g : Fin 4) : (wM.access (rW g)).set = (rW g).set := View.set_slice_whole _ _
theorem setD (g : Fin 4) (d : Fin 7) : (dstOf wM g d).view.set = (rD g d).set :=
  (View.set_reshape _ _).trans (View.set_slice_whole _ _)

/-! ## The ring of devices -/

/-- The device whose sums arrive in slot `d`. -/
def from' (c : Dev nD) (d : Fin 7) : Dev nD := peer c (Fin.rev d)

theorem peer_rev (c : Dev nD) (d : Fin 7) : peer (peer c (Fin.rev d)) d = c := by revert c d; decide
theorem rev_peer (c : Dev nD) (d : Fin 7) : peer (peer c d) (Fin.rev d) = c := by revert c d; decide
theorem from_peer (c : Dev nD) (d : Fin 7) : from' (peer c d) d = c := rev_peer c d

/-! ## Contents -/

section
variable (X : Dev nD → Vec F S2048x1024 .bf16)

/-- Row block `(g, j)` of a [2048, 1024] array. -/
def rowsOf (x : Vec F S2048x1024 .bf16) (g j : Fin 4) : Vec F S128x1024 .bf16 := fun y => x ((rX g j).emb y)

/-- The exponentials of device `c`'s columns. -/
def eArr (c : Dev nD) : Vec F S2048x1024 .bf16 := fun i =>
  expOf (rowsOf (X c) (kX i).1 (kX i).2) (ix2 (rOf (i 0).val) (i 1))

/-- Device `c`'s row sums: row `b`, lane `l` is the sum of row `128 b + l` over the device's columns. -/
def sArr (c : Dev nD) : Vec F S16x128 .f32 := fun i =>
  sumOf (rowsOf (X c) (gOf (i 0).val) (jOf (i 0).val)) (ix2 (0 : Fin 1) (i 1))

/-- The sums device `c` receives: slot `d` holds those of the device `d + 1` places before. -/
def wArr (c : Dev nD) : Vec F S7x16x128 .f32 := fun i => sArr X (from' c (i 0)) (ix2 (i 1) (i 2))

/-- Group `g`'s own sums, and its received sums. -/
def sGrp (c : Dev nD) (g : Fin 4) : Vec F S4x128 .f32 := fun y => sArr X c ((rG g).emb y)
def wGrp (c : Dev nD) (g : Fin 4) : Vec F S7x4x128 .f32 := fun y => wArr X c ((rW g).emb y)

/-- Device `c`'s columns of the result. -/
def oArr (c : Dev nD) : Vec F S2048x1024 .bf16 := fun i =>
  quotOf (kX i).2 (sGrp X c (kX i).1) (wGrp X c (kX i).1) (expOf (rowsOf (X c) (kX i).1 (kX i).2)) (ix2 (rOf (i 0).val) (i 1))

theorem emb_rX0 (g j : Fin 4) (y : S128x1024.Idx) : ((rX g j).emb y 0).val = 128 * blk g j + (y 0).val := by
  rw [ValueKit.rect_emb_unit_val]; rfl
theorem emb_rX1 (g j : Fin 4) (y : S128x1024.Idx) : (rX g j).emb y 1 = y 1 :=
  Fin.ext (by rw [ValueKit.rect_emb_unit_val]; exact Nat.zero_add _)
theorem kX_emb (g j : Fin 4) (y : S128x1024.Idx) : kX ((rX g j).emb y) = (g, j) :=
  (mem_rX g j _).mp (by rw [← Rect.map_emb_univ]; exact Finset.mem_map_of_mem _ (Finset.mem_univ y))
theorem ix_emb (g j : Fin 4) (y : S128x1024.Idx) :
    (ix2 (rOf ((rX g j).emb y 0).val) ((rX g j).emb y 1) : S128x1024.Idx) = y := by
  rw [emb_rX1, rOf_eq (blk g j) (y 0) (emb_rX0 g j y)]; exact (eq_ix2 y).symm

theorem eArr_emb (c : Dev nD) (g j : Fin 4) (y : S128x1024.Idx) :
    eArr X c ((rX g j).emb y) = expOf (rowsOf (X c) g j) y := by
  unfold eArr; rw [kX_emb, ix_emb]

theorem oArr_emb (c : Dev nD) (g j : Fin 4) (y : S128x1024.Idx) :
    oArr X c ((rX g j).emb y) = quotOf j (sGrp X c g) (wGrp X c g) (expOf (rowsOf (X c) g j)) y := by
  unfold oArr; rw [kX_emb, ix_emb]

theorem sArr_emb (c : Dev nD) (g j : Fin 4) (y : S1x128.Idx) :
    sArr X c ((rS g j).emb y) = sumOf (rowsOf (X c) g j) y := by
  have h0 : ((rS g j).emb y 0).val = 4 * (g : ℕ) + j := by
    rw [ValueKit.rect_emb_unit_val]
    have : (y 0).val < 1 := (y 0).isLt
    show blk g j + (y 0).val = _
    unfold blk; omega
  have h1 : (rS g j).emb y 1 = y 1 := Fin.ext (by rw [ValueKit.rect_emb_unit_val]; exact Nat.zero_add _)
  unfold sArr
  rw [gOf_eq g j h0, jOf_eq g j h0, h1]
  congr 1
  rw [eq_ix2 y]
  congr 1
  exact Subsingleton.elim (α := Fin 1) _ _

/-- Where copy `(g, d)` puts the element `y`. -/
theorem emb_dst (g : Fin 4) (d : Fin 7) (y : S4x128.Idx) :
    (dstOf wM g d).view.emb y = (ix3 d ((rG g).emb y 0) ((rG g).emb y 1) : S7x16x128.Idx) := by
  obtain ⟨a, b, rfl⟩ : ∃ a b, y = ix2 a b := ⟨_, _, eq_ix2 y⟩
  show (rD g d).emb (Shape.reshapeEquiv (s := S1x4x128) (s' := S4x128) _ (ix2 a b)) = _
  rw [ValueIdx.reshapeEquiv_ix2_1ab]
  funext ax
  refine Fin.ext ?_
  rw [ValueKit.rect_emb_unit_val]
  match ax with
  | ⟨0, _⟩ => rfl
  | ⟨1, _⟩ => exact (ValueKit.rect_emb_unit_val (s := S16x128) ![4 * (g : ℕ), 0] S4x128.size (inbG g) (ix2 a b) 0).symm
  | ⟨2, _⟩ => exact (ValueKit.rect_emb_unit_val (s := S16x128) ![4 * (g : ℕ), 0] S4x128.size (inbG g) (ix2 a b) 1).symm

/-- What copy `(g, d)` of device `c` leaves at its peer is what the peer's received sums hold there. -/
theorem wArr_dst (c : Dev nD) (g : Fin 4) (d : Fin 7) (y : S4x128.Idx) :
    wArr X (peer c d) ((dstOf wM g d).view.emb y) = sArr X c ((srcOf sM g).view.emb y) := by
  rw [emb_dst]
  show sArr X (from' (peer c d) d) (ix2 ((rG g).emb y 0) ((rG g).emb y 1)) = sArr X c ((rG g).emb y)
  rw [from_peer]
  congr 1
  exact (eq_ix2 _).symm

end

end Cert.Softmax

end
-- ==== Proof.Cells.lean ====
/- The exchange's cells and their schedule.

   A device has a barrier cell, 28 send cells and 28 receive cells, one of each for a group of rows
   and a peer. Every cell has one round. The barrier's round has seven duties, one for each peer: the
   peer hands over the rows this device will write there. A send cell's duty returns the lent rows
   of sums; a receive cell's brings the arrived sums. -/
module

public import proofs.«01_k».proof.Proof.Geo
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Softmax

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Transfers (shareTok shareDrop pointsTo_toks)
open Cert.KernelIdeal Cert.KernelIdeal.Gen

variable {F : FTy → Type} [FloatOps F]

/-! ## The resource algebra: the pipeline's rounds, and the exchange's with seven duty names -/

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The cells -/

/-- A device's cells: its barrier's, its send cells, its receive cells. -/
abbrev Key : Type := Unit ⊕ ((Fin 4 × Fin 7) ⊕ (Fin 4 × Fin 7))

abbrev kBar : Key := .inl ()
abbrev kSnd (g : Fin 4) (d : Fin 7) : Key := .inr (.inl (g, d))
abbrev kRcv (g : Fin 4) (d : Fin 7) : Key := .inr (.inr (g, d))

/-- A send or receive cell's semaphore. -/
def osem : (Fin 4 × Fin 7) ⊕ (Fin 4 × Fin 7) → SemLoc sig
  | .inl p => .dma (semAt cc0_scratch3 p.1 p.2)
  | .inr p => .dma (semAt cc0_scratch4 p.1 p.2)

/-- A cell's semaphore. -/
def csem : Key → SemLoc sig
  | .inl _ => .reg barSem
  | .inr k => osem k

theorem semAt_snd (g : Fin 4) (d : Fin 7) : (semAt cc0_scratch3 g d).val = 2 + (7 * (g : ℕ) + d) := by revert g d; decide
theorem semAt_rcv (g : Fin 4) (d : Fin 7) : (semAt cc0_scratch4 g d).val = 30 + (7 * (g : ℕ) + d) := by revert g d; decide

theorem osem_inj : Function.Injective osem := by
  rintro (⟨g, d⟩ | ⟨g, d⟩) (⟨g', d'⟩ | ⟨g', d'⟩) h
  all_goals
    have h' := congrArg Fin.val (SemLoc.dma.inj h)
    simp only [semAt_snd, semAt_rcv] at h'
  · obtain rfl : g = g' := Fin.ext (by omega)
    obtain rfl : d = d' := Fin.ext (by omega)
    rfl
  · omega
  · omega
  · obtain rfl : g = g' := Fin.ext (by omega)
    obtain rfl : d = d' := Fin.ext (by omega)
    rfl

theorem csem_inj : Function.Injective csem := by
  rintro (_ | k) (_ | k') h
  · rfl
  · rcases k' with _ | _ <;> cases (show SemLoc.reg _ = SemLoc.dma _ from h)
  · rcases k with _ | _ <;> cases (show SemLoc.dma _ = SemLoc.reg _ from h)
  · exact congrArg Sum.inr (osem_inj h)

open Classical in
/-- The cell a semaphore belongs to, if any. -/
def keyOf (s : SemLoc sig) : Option Key := if h : ∃ k, csem k = s then some h.choose else none

theorem keyOf_csem (k : Key) : keyOf (csem k) = some k := by
  have h : ∃ k', csem k' = csem k := ⟨k, rfl⟩
  unfold keyOf
  rw [dif_pos h, csem_inj h.choose_spec]

theorem keyOf_none {s : SemLoc sig} (h : ∀ k, csem k ≠ s) : keyOf s = none := dif_neg fun ⟨k, hk⟩ => h k hk

/-- Device `c`'s cell `k`. -/
abbrev cell (c : Dev nD) (k : Key) : GSem nD τ sig := ((c : Thread nD τ), csem k)

theorem cell_inj : Function.Injective (fun p : Dev nD × Key => cell p.1 p.2) := by
  rintro ⟨c, k⟩ ⟨c', k'⟩ h
  obtain rfl : c = c' := congrArg (fun g : GSem nD τ sig => g.1.1) h
  obtain rfl : k = k' := csem_inj (congrArg Prod.snd h)
  rfl

/-- The units a copy of four rows of sums adds. -/
abbrev N : ℕ := (srcOf sM 0).view.dmaCredit
theorem N_pos : 0 < N := View.dmaCredit_pos _ (by decide)
theorem credit_src (g : Fin 4) : (srcOf sM g).view.dmaCredit = N := rfl
theorem credit_dst (g : Fin 4) (d : Fin 7) : (dstOf wM g d).view.dmaCredit = N := rfl

/-! ## The regions owned -/

section Points
variable (c : Dev nD)

/-- Block `(g, j)` of the exponentials, of the result. -/
def ePts (g j : Fin 4) (f : Buf (Elt F) (eM.view.loc (c : Thread nD τ))) : sProp 𝕄 :=
  eM.view.loc (c : Thread nD τ) ↦[(eM.access (rX g j)).set]{fullShare} f
def oPts (g j : Fin 4) (f : Buf (Elt F) (oM.view.loc (c : Thread nD τ))) : sProp 𝕄 :=
  oM.view.loc (c : Thread nD τ) ↦[(oM.access (rX g j)).set]{fullShare} f
/-- Group `g` of the sums, at a share. -/
def sPts (g : Fin 4) (q : PosShare TreeShare) (f : Buf (Elt F) (sM.view.loc (c : Thread nD τ))) : sProp 𝕄 :=
  (srcOf sM g).view.loc (c : Thread nD τ) ↦[(srcOf sM g).view.set]{q} f
/-- Group `g` of slot `d` of the received sums. -/
def wPts (g : Fin 4) (d : Fin 7) (f : Buf (Elt F) (wM.view.loc (c : Thread nD τ))) : sProp 𝕄 :=
  (dstOf wM g d).view.loc (c : Thread nD τ) ↦[(dstOf wM g d).view.set]{fullShare} f

omit [FloatOps F] in
instance sPts_storable (g q f) : BI.Storable (upEmb : UEmb _ 𝕄) (sPts (F := F) c g q f) := by unfold sPts; infer_instance
omit [FloatOps F] in
instance wPts_storable (g d f) : BI.Storable (upEmb : UEmb _ 𝕄) (wPts (F := F) c g d f) := by unfold wPts; infer_instance

end Points

/-! ## The schedule -/

section Sched
variable (X : Dev nD → Vec F S2048x1024 .bf16)

/-- What a cell's duty hands over. -/
def pay (c : Dev nD) : Key → Fin 7 → sProp 𝕄
  | .inl _, d => bigSep Finset.univ fun g : Fin 4 => iprop(∃ f, wPts (peer c d) g d f)
  | .inr (.inl p), _ => sPts c p.1 (shareTok fullShare 7 p.2) (sArr X c)
  | .inr (.inr p), _ => wPts c p.1 p.2 (wArr X c)

instance pay_storable (c : Dev nD) (k : Key) (d : Fin 7) : BI.Storable (upEmb : UEmb _ 𝕄) (pay X c k d) := by
  rcases k with _ | p | p <;> (unfold pay; infer_instance)

/-- A cell's duties, and their units. -/
def dut : Key → Finset (Fin 7)
  | .inl _ => Finset.univ
  | .inr _ => {0}
def amt : Key → ℕ
  | .inl _ => 1
  | .inr _ => N

/-- Every cell of every device has the one round 0. -/
def sched : Rounds.Schedule (GSem nD τ sig) (Fin 7) 𝕄 where
  duties g r := if r = 0 ∧ g.1.2 = .tc then (keyOf g.2).elim ∅ dut else ∅
  unitless _ := False
  amount g _ _ := (keyOf g.2).elim 1 amt
  payload g _ d := (keyOf g.2).elim iprop(emp) fun k => pay X g.1.1 k d
  amount_pos g _ _ _ := by
    rcases keyOf g.2 with _ | _ | _
    · exact Nat.one_pos
    · exact Nat.one_pos
    · exact N_pos

instance sched_payload_storable (g : GSem nD τ sig) (r : ℕ) (d : Fin 7) :
    BI.Storable (upEmb : UEmb _ 𝕄) ((sched X).payload g r d) := by
  show BI.Storable upEmb ((keyOf g.2).elim iprop(emp) fun k => pay X g.1.1 k d)
  rcases keyOf g.2 with _ | k
  · exact (inferInstance : BI.Storable (upEmb : UEmb _ 𝕄) iprop(emp))
  · exact pay_storable X _ k d

variable (c : Dev nD) (k : Key)

theorem duties_cell : (sched X).duties (cell c k) 0 = dut k := by
  dsimp only [sched]; rw [if_pos ⟨rfl, rfl⟩, keyOf_csem]; rfl
theorem duties_later (g : GSem nD τ sig) : ∀ r, 1 ≤ r → (sched X).duties g r = ∅ := fun r hr => by
  dsimp only [sched]; exact if_neg fun h => by omega
theorem amount_cell (d : Fin 7) : (sched X).amount (cell c k) 0 d = amt k := by
  dsimp only [sched]; rw [keyOf_csem]; rfl
theorem payload_cell (d : Fin 7) : (sched X).payload (cell c k) 0 d = pay X c k d := by
  dsimp only [sched]; rw [keyOf_csem]; rfl

theorem mem_duties {d : Fin 7} (h : d ∈ dut k) : d ∈ (sched X).duties (cell c k) 0 := by rw [duties_cell]; exact h

/-- The units of a cell's round. -/
def tot : Key → ℕ
  | .inl _ => 7
  | .inr _ => N

theorem expect_cell : (sched X).expect (cell c k) 0 = tot k := by
  unfold Schedule.expect Schedule.amountOf
  rw [duties_cell, Finset.sum_congr rfl fun d _ => amount_cell X c k d, Finset.sum_const]
  rcases k with _ | _
  · rfl
  · exact (Nat.one_mul _)

theorem rest_cell : bigSep ((sched X).duties (cell c k) 0 \ ∅) (fun d => (sched X).payload (cell c k) 0 d)
    = bigSep (dut k) (fun d => pay X c k d) := by
  rw [Finset.sdiff_empty, duties_cell]
  exact bigSep_congr fun d _ => payload_cell X c k d

end Sched

/-! ## What a device owes, in the order it pays -/

/-- The copy to peer `d` owes its receive cell; the signal, its barrier cell. -/
def sendOwe (c : Dev nD) (g : Fin 4) (d : Fin 7) : CellTallies nD τ sig Unit := tallyAt (cell (peer c d) (kRcv g d)) () N
def sigOwe (c : Dev nD) (d : Fin 7) : CellTallies nD τ sig Unit := tallyAt (cell (peer c d) kBar) () 1

/-- The sum of `f i` over `k ≤ i`. -/
def tail {n : ℕ} (f : Fin n → CellTallies nD τ sig Unit) (k : ℕ) : CellTallies nD τ sig Unit :=
  ∑ i ∈ Finset.univ.filter (fun i : Fin n => k ≤ i.val), f i

theorem tail_end {n : ℕ} (f : Fin n → CellTallies nD τ sig Unit) : tail f n = 0 := by
  unfold tail
  rw [Finset.filter_false_of_mem fun i _ => by have := i.isLt; omega, Finset.sum_empty]

theorem tail_step {n : ℕ} (f : Fin n → CellTallies nD τ sig Unit) (i : Fin n) : tail f i = tail f (i + 1) + f i := by
  unfold tail
  rw [show Finset.univ.filter (fun j : Fin n => i.val ≤ j.val) = insert i (Finset.univ.filter fun j : Fin n => i.val + 1 ≤ j.val) from by
    ext j
    simp only [Finset.mem_filter, Finset.mem_univ, true_and, Finset.mem_insert, Fin.ext_iff]
    omega]
  rw [Finset.sum_insert (by simp), add_comm]

theorem tail_zero {n : ℕ} (f : Fin n → CellTallies nD τ sig Unit) : tail f 0 = ∑ i, f i := by
  unfold tail; rw [Finset.filter_true_of_mem fun i _ => Nat.zero_le _]

/-- The copies of group `g` owe this. -/
def grpOwe (c : Dev nD) (g : Fin 4) : CellTallies nD τ sig Unit := tail (sendOwe c g) 0

/-- At launch: all copies, then all signals. -/
def owe₀ (c : Dev nD) : CellTallies nD τ sig Unit := tail (grpOwe c) 0 + tail (sigOwe c) 0

/-! ## Levels: a barrier cell 1, a receive cell 2, every other cell 0 -/

def L (g : GSem nD τ sig) : Finset Unit := if g.1.2 = .tc then {()} else ∅

def klv : Key → ℕ
  | .inl _ => 1
  | .inr (.inl _) => 0
  | .inr (.inr _) => 2

def lv (g : GSem nD τ sig) (_ : Unit) : ℕ := (keyOf g.2).elim 0 klv

theorem lv_cell (c : Dev nD) (k : Key) : lv (cell c k) () = klv k := by unfold lv; rw [keyOf_csem]; rfl
theorem L_tc (c : Dev nD) (s : SemLoc sig) : L ((c : Thread nD τ), s) = {()} := if_pos rfl
theorem L_of_ne (g : GSem nD τ sig) (h : g.1.2 ≠ .tc) : L g = ∅ := if_neg h

/-- Everything owed is owed to a core's cell above level `n`. -/
def Above (n : ℕ) (O : CellTallies nD τ sig Unit) : Prop := ∀ g u, 0 < O g u → g.1.2 = .tc ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (k : Key) (a : ℕ) (hk : n < klv k) : Above n (tallyAt (cell c k) () a) := fun g u hg => by
  rw [tallyAt_apply] at hg
  by_cases h : g = cell c k ∧ u = ()
  · obtain ⟨rfl, rfl⟩ := h
    exact ⟨rfl, by rw [lv_cell]; exact hk⟩
  · rw [if_neg h] at hg; exact absurd hg (Nat.lt_irrefl 0)
theorem above_tail {n m : ℕ} {f : Fin m → CellTallies nD τ sig Unit} (h : ∀ i, Above n (f i)) (k : ℕ) : Above n (tail f k) :=
  Finset.sum_induction f (Above n) (fun _ _ => above_add) (above_zero n) fun i _ => h i
theorem above_copies {n : ℕ} (hn : n < 2) (c : Dev nD) (k : ℕ) : Above n (tail (grpOwe c) k) :=
  above_tail (fun g => above_tail (fun d => above_tally _ (kRcv g d) _ hn) 0) k
theorem above_owe₀ (c : Dev nD) : Above 0 (owe₀ c) :=
  above_add (above_copies (by decide) c 0) (above_tail (fun _ => above_tally _ kBar _ (by decide)) 0)

/-- A device may wait at a cell below everything it owes. -/
theorem mayWait (c : Dev nD) (s : SemLoc sig) (O : CellTallies nD τ sig Unit) (h : Above (lv ((c : Thread nD τ), s) ()) O) :
    (levAts L lv : sProp 𝕄) ⊢ MayWait (c : Thread nD τ) s () O :=
  MayOwe.of_cut (L := L) (lev := lv) (lv ((c : Thread nD τ), s) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.Softmax

end
-- ==== Proof.Phases.lean ====
/- One lemma for each loop body of the kernel, and the rule that makes a loop of them.

   A loop body takes its own share `P i` of what the loop owns to `Q i`, and what all iterations
   pass on, `C i`, to `C (i + 1)`. -/
module

public import proofs.«01_k».proof.Proof.Cells

@[expose] public section

noncomputable section

namespace Cert.Softmax

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Transfers (shareTok shareDrop pointsTo_toks)
open Cert.KernelIdeal Cert.KernelIdeal.Gen

variable {F : FTy → Type} [FloatOps F]

local notation "𝕄" => MT nD τ sig Unit (Elt F) ℕ UU ℕ

abbrev 𝒱₀ : Variants := Variants.none

/-- Device `c` may run `p`, ending with `Q`. -/
abbrev run (c : Dev nD) {α : Type} (p : DevProg F α) (Q : α → sProp 𝕄) : sProp 𝕄 :=
  wp frame (wpE (defs₀ (F := F)) 𝒱₀ (c : Thread nD τ) none) Set.univ p Q

/-! ## Loops -/

theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

theorem bigSep_pick {I : Type} [Fintype I] [DecidableEq I] (Φ : I → sProp 𝕄) (i : I) : (bigSep Finset.univ Φ : sProp 𝕄) ⊢ Φ i :=
  bigSep_elim (Finset.mem_univ i)

/-- A program, then another: what the first leaves is what the second starts from. -/
theorem run_seq (c : Dev nD) {α β : Type} {p : DevProg F α} {k : α → DevProg F β} {P : sProp 𝕄} {Q : α → sProp 𝕄} {R : β → sProp 𝕄}
    (h : P ⊢ run c p Q) (hk : ∀ a, Q a ⊢ run c (k a) R) : P ⊢ run c (p >>= k) R := by
  unfold run
  rw [wp_bind]
  exact h.trans (wp_mono _ _ _ hk)

/-- What a program does not touch stays. -/
theorem run_frame (c : Dev nD) {α : Type} {p : DevProg F α} {P R : sProp 𝕄} {Q : α → sProp 𝕄} (h : P ⊢ run c p Q) :
    iprop(P ∗ R) ⊢ run c p (fun a => iprop(Q a ∗ R)) :=
  (sep_mono_left h).trans (wp_frame_r _ _ _)

theorem run_conseq (c : Dev nD) {α : Type} {p : DevProg F α} {P P' : sProp 𝕄} {Q Q' : α → sProp 𝕄} (h : P ⊢ run c p Q)
    (hP : P' ⊢ P) (hQ : ∀ a, Q a ⊢ Q' a) : P' ⊢ run c p Q' :=
  hP.trans (h.trans (wp_mono _ _ _ hQ))

theorem run_forN (c : Dev nD) {n : ℕ} (f : Fin n → DevProg F PUnit) (C : ℕ → sProp 𝕄) (P Q : Fin n → sProp 𝕄)
    (h : ∀ i : Fin n, iprop(C i ∗ P i) ⊢ run c (f i) (fun _ => iprop(C (i + 1) ∗ Q i))) :
    iprop(C 0 ∗ bigSep Finset.univ P) ⊢ run c (forN n f) (fun _ => iprop(C n ∗ bigSep Finset.univ Q)) := by
  induction n generalizing C with
  | zero =>
    unfold forN
    refine BIBase.Entails.trans ?_ (le_wp_ret _ _ _ _ _)
    iintro ⟨HC, -⟩
    isplitl [HC]; · iexact HC
    rw [Finset.univ_eq_empty, bigSep_empty]
    iempintro
  | succ n ih =>
    unfold forN
    refine BIBase.Entails.trans ?_ (run_seq c (P := iprop((C 0 ∗ P 0) ∗ bigSep Finset.univ fun i : Fin n => P i.succ))
      (Q := fun _ => iprop((C 1 ∗ Q 0) ∗ bigSep Finset.univ fun i : Fin n => P i.succ)) (run_frame c (h 0)) ?_)
    · rw [bigSep_first P]
      iintro ⟨HC, HP, HPs⟩
      isplitl [HC HP]
      · isplitl [HC] <;> iassumption
      iexact HPs
    · intro _
      refine run_conseq c (run_frame c (R := Q 0) (ih (fun i => f i.succ) (fun k => C (k + 1)) (fun i => P i.succ) (fun i => Q i.succ)
        fun i => h i.succ)) ?_ ?_
      · iintro ⟨⟨HC, HQ⟩, HP⟩
        isplitl [HC HP]
        · isplitl [HC] <;> iassumption
        iexact HQ
      · intro _
        rw [bigSep_first Q]
        iintro ⟨⟨HC, HQs⟩, HQ⟩
        isplitl [HC]; · iexact HC
        isplitl [HQ] <;> iassumption

/-! ## Regions -/

/-- A region cut into parts told apart by a function of the index. -/
theorem pointsTo_parts {ℓ : Loc nD τ sig} {T T' : Type} [Fintype T] (κ : Idx ℓ → T') (e : T → T') (he : Function.Injective e)
    (S : T → Finset (Idx ℓ)) (U : Finset (Idx ℓ)) (hS : ∀ t i, i ∈ S t → κ i = e t) (hU : ∀ i, i ∈ U ↔ ∃ t, i ∈ S t)
    (q : PosShare TreeShare) (f : Buf (Elt F) ℓ) :
    (ℓ ↦[U]{q} f : sProp 𝕄) = bigSep Finset.univ fun t => ℓ ↦[S t]{q} f := by
  rw [← pointsTo_biUnion Finset.univ S fun t _ t' _ h => Finset.disjoint_left.mpr fun i hi hi' =>
    h (he ((hS t i hi).symm.trans (hS t' i hi')))]
  congr 1
  ext i
  rw [hU, Finset.mem_biUnion]
  exact ⟨fun ⟨t, h⟩ => ⟨t, Finset.mem_univ _, h⟩, fun ⟨t, _, h⟩ => ⟨t, h⟩⟩

/-- Written where `g` is to be read, the written array is `g`. -/
theorem pointsTo_write {c : Dev nD} {s : Shape} {e : EltTy} (v : View sig .tc .vmem s e) (f g : Buf (Elt F) (v.loc (c : Thread nD τ)))
    (w : s.Idx → Elt F e) (q : PosShare TreeShare) (h : v.read (Elt F) g = w) :
    (v.loc (c : Thread nD τ) ↦[v.set]{q} (v.write (Elt F) f w Finset.univ) : sProp 𝕄) = (v.loc (c : Thread nD τ) ↦[v.set]{q} g) := by
  refine pointsTo_congr fun i hi => ?_
  obtain ⟨x, -, rfl⟩ := Finset.mem_map.mp hi
  rw [View.write_emb_of_mem _ _ (Finset.mem_univ x), ← h]
  exact cast_cast _ _ _ |>.trans (cast_eq _ _)

/-! ## What every device may use at any time -/

section
variable (X : Dev nD → Vec F S2048x1024 .bf16) (K : Dev nD × Key → ℕ)

/-- Every cell's invariant, that each is at its round 0 or later, and the levels. -/
def Ctx : sProp 𝕄 :=
  iprop((bigSep Finset.univ fun p : Dev nD × Key => iprop(cellInv EX (sched X) (K p) (cell p.1 p.2) ∗ reached EX (cell p.1 p.2) 0))
    ∗ levAts L lv)

instance ctx_persistent : BI.Persistent (Ctx X K) := by unfold Ctx; infer_instance

theorem ctx_inv (c : Dev nD) (k : Key) : Ctx X K ⊢ cellInv EX (sched X) (K (c, k)) (cell c k) := by
  unfold Ctx
  iintro ⟨H, -⟩
  ihave H := (bigSep_pick _ (c, k)) $$ H
  icases H with ⟨H, -⟩
  iexact H
theorem ctx_reached (c : Dev nD) (k : Key) : Ctx X K ⊢ reached EX (cell c k) 0 := by
  unfold Ctx
  iintro ⟨H, -⟩
  ihave H := (bigSep_pick _ (c, k)) $$ H
  icases H with ⟨-, H⟩
  iexact H
theorem ctx_lev : Ctx X K ⊢ levAts L lv := by
  unfold Ctx
  exact sep_elim_right

/-- Device `c` owes `O`. -/
def owe (c : Dev nD) (O : CellTallies nD τ sig Unit) : sProp 𝕄 := iprop(∃ W, owes (c : Thread nD τ) O W)

variable (c : Dev nD)

theorem owe_step (O : CellTallies nD τ sig Unit) {n : ℕ} (f : Fin n → CellTallies nD τ sig Unit) (d : Fin n) :
    O + tail f d = O + tail f (d + 1) + f d := by rw [tail_step f d, ← add_assoc]

theorem pay_bar (d : Fin 7) : (bigSep Finset.univ fun g : Fin 4 => iprop(∃ f, wPts (F := F) c g (Fin.rev d) f))
    ⊢ (sched X).payload ((peer c d : Thread nD τ), .reg barSem) 0 (Fin.rev d) := by
  refine BIBase.Entails.trans ?_ (Entails.of_eq (payload_cell X (peer c d) kBar (Fin.rev d)).symm)
  show _ ⊢ bigSep Finset.univ fun g : Fin 4 => iprop(∃ f, wPts (peer (peer c d) (Fin.rev d)) g (Fin.rev d) f)
  rw [rev_peer]

theorem rest_bar : (bigSep ((sched X).duties ((c : Thread nD τ), .reg barSem) 0 \ ∅) fun d => (sched X).payload ((c : Thread nD τ), .reg barSem) 0 d)
    ⊢ bigSep Finset.univ fun d : Fin 7 => bigSep Finset.univ fun g : Fin 4 => iprop(∃ f, wPts (F := F) (peer c d) g d f) :=
  Entails.of_eq (rest_cell X c kBar)

theorem rest_snd (g : Fin 4) (d : Fin 7) :
    (bigSep ((sched X).duties ((c : Thread nD τ), .dma (semAt cc0_scratch3 g d)) 0 \ ∅)
      fun d' => (sched X).payload ((c : Thread nD τ), .dma (semAt cc0_scratch3 g d)) 0 d')
      ⊢ sPts c g (shareTok fullShare 7 d) (sArr X c) :=
  Entails.of_eq ((rest_cell X c (kSnd g d)).trans bigSep_singleton)

theorem rest_rcv (g : Fin 4) (d : Fin 7) :
    (bigSep ((sched X).duties ((c : Thread nD τ), .dma (semAt cc0_scratch4 g d)) 0 \ ∅)
      fun d' => (sched X).payload ((c : Thread nD τ), .dma (semAt cc0_scratch4 g d)) 0 d')
      ⊢ wPts c g d (wArr X c) :=
  Entails.of_eq ((rest_cell X c (kRcv g d)).trans bigSep_singleton)

/-! ## The loop bodies -/

/-- A signal to peer `d` hands it the rows of slot `d`'s mirror, which that peer writes. -/
theorem run_signal (O : CellTallies nD τ sig Unit) (d : Fin 7) :
    iprop((Ctx X K ∗ owe c (O + tail (sigOwe c) d)) ∗ (dutyTok EX (cell (peer c d) kBar) 0 (Fin.rev d)
        ∗ bigSep Finset.univ fun g : Fin 4 => iprop(∃ f, wPts c g (Fin.rev d) f)))
      ⊢ run c (signalP c d) (fun _ => iprop((Ctx X K ∗ owe c (O + tail (sigOwe c) (d + 1))) ∗ emp)) := by
  unfold signalP run owe
  simp only [semSignalWord, Prog.lift]
  iintro ⟨⟨#HC, %W, HO⟩, Ht, Hw⟩
  ihave #HI := (ctx_inv X K (peer c d) kBar) $$ HC
  ihave #HR := (ctx_reached X K (peer c d) kBar) $$ HC
  iapply (Rounds.wp_signal 𝒱₀ EX (sched X) (c : Thread nD τ) none (dst := (peer c d : Thread nD τ)) (κ := K (peer c d, kBar))
      (d := Fin.rev d) (mem_duties X (peer c d) kBar (Finset.mem_univ _))
      ((amount_cell X (peer c d) kBar _).trans (by decide)) () (O₀ := O + tail (sigOwe c) d) (O + tail (sigOwe c) (d + 1))
      (owe_step O (sigOwe c) d)) $$ [HO Ht Hw]
  · isplitr; · iexact HI
    isplitl [HO]; · iexact HO
    isplitl [Ht]; · iexact Ht
    isplitl [Hw]
    · iapply (pay_bar X c d); iexact Hw
    iexact HR
  iintro HO
  rw [wp_ret]; imodintro
  isplitl [HO]
  · isplitr; · iexact HC
    iexists W; iexact HO
  iempintro

/-- The wait for the seven peers: each has handed over its rows. -/
theorem run_barrier :
    iprop((Ctx X K ∗ owe c (tail (grpOwe c) 0)) ∗ cred (tallyAt (cell c kBar) () 7) ∗ atPos EX (cell c kBar) 0 ∅ 0)
      ⊢ run c (semWaitWord barSem 7#32) (fun _ => iprop((Ctx X K ∗ owe c (tail (grpOwe c) 0)) ∗ semVal (cell c kBar) 0
          ∗ bigSep Finset.univ fun d : Fin 7 => bigSep Finset.univ fun g : Fin 4 => iprop(∃ f, wPts (peer c d) g d f))) := by
  unfold run owe
  simp only [semWaitWord, Prog.lift]
  iintro ⟨⟨#HC, %W, HO⟩, Hc, Hat⟩
  ihave #HI := (ctx_inv X K c kBar) $$ HC
  iapply (Rounds.wp_wait_rest_token 𝒱₀ EX (sched X) (c : Thread nD τ) none (κ := K (c, kBar))
      (wpE_semWait_eq 𝒱₀ (c : Thread nD τ) none Set.univ) (Set.mem_univ _) () (O := tail (grpOwe c) 0) (W := W) (R := 0) (m := 0) (T := ∅)
      ((expect_cell X c kBar).symm)) $$ [Hc HO Hat]
  · isplitr; · iexact HI
    isplitl [Hc]; · iexact Hc
    isplitl [HO]; · iexact HO
    isplitr
    · iapply (mayWait c (.reg barSem) (tail (grpOwe c) 0) (above_copies (lt_of_eq_of_lt (lv_cell c kBar) (by decide)) c 0))
      iapply (ctx_lev X K); iexact HC
    iexact Hat
  iintro ⟨HO, Hat, -, Hpay⟩
  ihave Hp := (rest_bar X c) $$ Hpay
  imod (Rounds.cell_close EX (sched X) (Set.mem_univ (K (c, kBar))) (fun h => h) (R := 0 + 1) (duties_later X (cell c kBar))) $$ [Hat] with Hz
  · isplitr; · iexact HI
    iexact Hat
  rw [wp_ret]; imodintro
  isplitl [HO]
  · isplitr; · iexact HC
    iexists _; iexact HO
  isplitl [Hz]; · iexact Hz
  iexact Hp

/-- The copy of group `g`'s sums to peer `d`. -/
theorem run_send (O : CellTallies nD τ sig Unit) (g : Fin 4) (d : Fin 7) :
    iprop((Ctx X K ∗ owe c (O + tail (sendOwe c g) d))
        ∗ (sPts c g (shareTok fullShare 7 d) (sArr X c) ∗ (∃ f, wPts (peer c d) g d f)
          ∗ dutyTok EX (cell c (kSnd g d)) 0 0 ∗ dutyTok EX (cell (peer c d) (kRcv g d)) 0 0))
      ⊢ run c (sendP sM wM cc0_scratch3 cc0_scratch4 c g d)
          (fun _ => iprop((Ctx X K ∗ owe c (O + tail (sendOwe c g) (d + 1))) ∗ cred (tallyAt (cell c (kSnd g d)) () N))) := by
  unfold sendP run owe
  simp only [Prog.lift]
  iintro ⟨⟨#HC, %W, HO⟩, Hs, ⟨%f, Hw⟩, Ht, Ht'⟩
  ihave #HI := (ctx_inv X K c (kSnd g d)) $$ HC
  ihave #HI' := (ctx_inv X K (peer c d) (kRcv g d)) $$ HC
  ihave #HR := (ctx_reached X K c (kSnd g d)) $$ HC
  ihave #HR' := (ctx_reached X K (peer c d) (kRcv g d)) $$ HC
  unfold sPts wPts
  iapply (Rounds.wp_send_pointsTo 𝒱₀ EX (sched X) (c : Thread nD τ) none (c' := (peer c d : Thread nD τ))
      (src := srcOf sM g) (dst := dstOf wM g d) (sS := .dma (semAt cc0_scratch3 g d)) (sem := .dma (semAt cc0_scratch4 g d))
      (κ₁ := K (c, kSnd g d)) (κ₂ := K (peer c d, kRcv g d)) (r₁ := 0) (r₂ := 0) (d₁ := 0) (d₂ := 0) (fd := f)
      (mem_duties X c (kSnd g d) (Finset.mem_singleton_self _))
      (mem_duties X (peer c d) (kRcv g d) (Finset.mem_singleton_self _))
      () () N (credit_dst g d) (amount_cell X c (kSnd g d) 0) (amount_cell X (peer c d) (kRcv g d) 0)
      (O₀ := O + tail (sendOwe c g) d) (O + tail (sendOwe c g) (d + 1)) (owe_step O (sendOwe c g) d) (W := W)
      (Entails.of_eq (payload_cell X c (kSnd g d) 0).symm)
      ((Entails.of_eq (pointsTo_write (c := peer c d) (dstOf wM g d).view f (wArr X (peer c d)) _ fullShare
          (funext fun y => wArr_dst X c g d y))).trans (Entails.of_eq (payload_cell X (peer c d) (kRcv g d) 0).symm))) $$ [Hs Hw HO Ht Ht']
  · isplitr; · iexact HI
    isplitr; · iexact HI'
    isplitl [Hs]; · iexact Hs
    isplitl [Hw]; · iexact Hw
    isplitl [HO]; · iexact HO
    isplitl [Ht]; · iexact Ht
    isplitr; · iexact HR
    isplitl [Ht']; · iexact Ht'
    iexact HR'
  iintro ⟨Hc, HO⟩
  rw [wp_ret]; imodintro
  isplitl [HO]
  · isplitr; · iexact HC
    iexists W; iexact HO
  iexact Hc

/-- The two waits of copy `(g, d)`: the lent rows are back, and the arrived sums are in slot `d`. -/
theorem run_wait (g : Fin 4) (d : Fin 7) :
    iprop((Ctx X K ∗ owe c 0) ∗ (cred (tallyAt (cell c (kSnd g d)) () N) ∗ cred (tallyAt (cell c (kRcv g d)) () N)
        ∗ atPos EX (cell c (kSnd g d)) 0 ∅ 0 ∗ atPos EX (cell c (kRcv g d)) 0 ∅ 0))
      ⊢ run c (waitP sM wM cc0_scratch3 cc0_scratch4 g d)
          (fun _ => iprop((Ctx X K ∗ owe c 0) ∗ (sPts c g (shareTok fullShare 7 d) (sArr X c) ∗ wPts c g d (wArr X c)
            ∗ semVal (cell c (kSnd g d)) 0 ∗ semVal (cell c (kRcv g d)) 0))) := by
  unfold waitP run owe
  simp only [Prog.lift, Prog.bind_op, Prog.bind_ret]
  iintro ⟨⟨#HC, %W, HO⟩, Hc, Hc', Hat, Hat'⟩
  ihave #HI := (ctx_inv X K c (kSnd g d)) $$ HC
  ihave #HI' := (ctx_inv X K c (kRcv g d)) $$ HC
  iapply (Rounds.wp_wait_rest_token 𝒱₀ EX (sched X) (c : Thread nD τ) none (κ := K (c, kSnd g d))
      (wpE_waitDma2_eq (src := dstOf wM g d) (dst := srcOf sM g) (sem := semAt cc0_scratch3 g d) 𝒱₀ (c : Thread nD τ) none Set.univ) (Set.mem_univ _) () (O := 0) (W := W) (R := 0) (m := 0) (T := ∅)
      ((Nat.zero_add _).trans (expect_cell X c (kSnd g d)).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hs := (rest_snd X c g d) $$ Hpay
  iapply (Rounds.wp_wait_rest_token 𝒱₀ EX (sched X) (c : Thread nD τ) none (κ := K (c, kRcv g d))
      (wpE_waitDma2_eq (src := srcOf sM g) (dst := dstOf wM g d) (sem := semAt cc0_scratch4 g d) 𝒱₀ (c : Thread nD τ) none Set.univ) (Set.mem_univ _) () (O := 0) (R := 0) (m := 0) (T := ∅)
      ((Nat.zero_add _).trans (expect_cell X c (kRcv g d)).symm)) $$ [Hc' HO Hat']
  · isplitr; · iexact HI'
    isplitl [Hc']; · iexact Hc'
    isplitl [HO]; · iexact HO
    isplitr; · rw [MayWait_zero]; iempintro
    iexact Hat'
  iintro ⟨HO, Hat', -, Hpay⟩
  ihave Hw := (rest_rcv X c g d) $$ Hpay
  imod (Rounds.cell_close EX (sched X) (Set.mem_univ (K (c, kSnd g d))) (fun h => h) (R := 0 + 1) (duties_later X (cell c (kSnd g d)))) $$ [Hat] with Hz
  · isplitr; · iexact HI
    iexact Hat
  imod (Rounds.cell_close EX (sched X) (Set.mem_univ (K (c, kRcv g d))) (fun h => h) (R := 0 + 1) (duties_later X (cell c (kRcv g d)))) $$ [Hat'] with Hz'
  · isplitr; · iexact HI'
    iexact Hat'
  rw [wp_ret]; imodintro
  isplitl [HO]
  · isplitr; · iexact HC
    iexists _; iexact HO
  isplitl [Hs]; · iexact Hs
  isplitl [Hw]; · iexact Hw
  isplitl [Hz] <;> iassumption

/-- The copy of `x` staged on device `c`. -/
def xPts : sProp 𝕄 := xM.view.loc (c : Thread nD τ) ↦[Finset.univ]{fullShare} X c

/-- Row `(g, j)` of the sums. -/
def rPts (c : Dev nD) (g j : Fin 4) (f : Buf (Elt F) (sM.view.loc (c : Thread nD τ))) : sProp 𝕄 :=
  sM.view.loc (c : Thread nD τ) ↦[(sM.access (rS g j)).set]{fullShare} f

/-- Row block `(g, j)`: its exponentials and their sums. -/
theorem run_row (g j : Fin 4) :
    iprop(xPts X c ∗ ((∃ f, ePts c g j f) ∗ ∃ f, rPts c g j f))
      ⊢ run c (rowP xM eM (Memref.isWhole_whole _) sM g j)
          (fun _ => iprop(xPts X c ∗ (ePts c g j (eArr X c) ∗ rPts c g j (sArr X c)))) := by
  unfold rowP run xPts ePts rPts
  simp only [Prog.lift, Prog.bind_op, Prog.bind_ret]
  iintro ⟨Hx, ⟨%fe, He⟩, %fs, Hs⟩
  iapply (wp_load_rect 𝒱₀ (c : Thread nD τ) none Set.univ (m := xM) (r := rX g j) (Finset.subset_univ _)) $$ Hx; iintro Hx
  iapply (wp_load_rect 𝒱₀ (c : Thread nD τ) none Set.univ (m := eM) (r := rX g j) (Finset.Subset.refl _)) $$ He; iintro He
  iapply (wp_store 𝒱₀ (c : Thread nD τ) none Set.univ (m := eM) (r := rX g j) (Mk := Finset.univ) (by exact Finset.Subset.refl _)) $$ He; iintro He
  iapply (wp_load_rect 𝒱₀ (c : Thread nD τ) none Set.univ (m := sM) (r := rS g j) (Finset.Subset.refl _)) $$ Hs; iintro Hs
  iapply (wp_store 𝒱₀ (c : Thread nD τ) none Set.univ (m := sM) (r := rS g j) (Mk := Finset.univ) (by exact Finset.Subset.refl _)) $$ Hs; iintro Hs
  rw [wp_ret]; imodintro
  isplitl [Hx]; · iexact Hx
  isplitl [He]
  · iapply (Entails.of_eq (pointsTo_write (c := c) (eM.access (rX g j)) fe (eArr X c) _ fullShare (funext fun y => eArr_emb X c g j y)))
    iexact He
  · iapply (Entails.of_eq (pointsTo_write (c := c) (sM.access (rS g j)) fs (sArr X c) _ fullShare (funext fun y => sArr_emb X c g j y)))
    iexact Hs

/-- Row block `(g, j)`: its quotients. -/
theorem run_quot (g j : Fin 4) :
    iprop(emp ∗ (ePts c g j (eArr X c) ∗ ∃ f, oPts c g j f))
      ⊢ run c (quotP oM eM (Memref.isWhole_whole _) (sGrp X c g) (wGrp X c g) g j)
          (fun _ => iprop(emp ∗ (ePts c g j (eArr X c) ∗ oPts c g j (oArr X c)))) := by
  unfold quotP run ePts oPts
  simp only [Prog.lift, Prog.bind_op, Prog.bind_ret]
  iintro ⟨-, He, %fo, Ho⟩
  iapply (wp_load_rect 𝒱₀ (c : Thread nD τ) none Set.univ (m := eM) (r := rX g j) (Finset.Subset.refl _)) $$ He; iintro He
  iapply (wp_load_rect 𝒱₀ (c : Thread nD τ) none Set.univ (m := oM) (r := rX g j) (Finset.Subset.refl _)) $$ Ho; iintro Ho
  iapply (wp_store 𝒱₀ (c : Thread nD τ) none Set.univ (m := oM) (r := rX g j) (Mk := Finset.univ) (by exact Finset.Subset.refl _)) $$ Ho; iintro Ho
  rw [wp_ret]; imodintro
  isplitr; · iempintro
  isplitl [He]; · iexact He
  rw [show (eM.access (rX g j)).read (Elt F) (eArr X c) = expOf (rowsOf (X c) g j) from funext fun y => eArr_emb X c g j y]
  iapply (Entails.of_eq (pointsTo_write (c := c) (oM.access (rX g j)) fo (oArr X c) _ fullShare (funext fun y => oArr_emb X c g j y)))
  iexact Ho

end

end Cert.Softmax

end
-- ==== Proof.Body.lean ====
/- The kernel's body on one device, put together from its loops. -/
module

public import proofs.«01_k».proof.Proof.Phases

@[expose] public section

noncomputable section

namespace Cert.Softmax

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Transfers (shareTok shareDrop pointsTo_toks)
open Cert.KernelIdeal Cert.KernelIdeal.Gen

variable {F : FTy → Type} [FloatOps F]

local notation "𝕄" => MT nD τ sig Unit (Elt F) ℕ UU ℕ

/-! ## The buffers in parts -/

theorem mem_rS (g j : Fin 4) (i : S16x128.Idx) : i ∈ (rS g j).set ↔ (i 0).val = blk g j := by
  have h1 : (i 1).val < 128 := (i 1).isLt
  rw [Rect.mem_set_unit, Fin.forall_fin_two]
  show (blk g j ≤ (i 0).val ∧ (i 0).val < blk g j + 1) ∧ (0 ≤ (i 1).val ∧ (i 1).val < 0 + 128) ↔ _
  omega

theorem blk_inj (g : Fin 4) : Function.Injective (blk g) := fun j j' h => Fin.ext (by unfold blk at h; omega)

section
variable (c : Dev nD)

/-- A group of sums is its four rows. -/
theorem sPts_rows (g : Fin 4) (f : Buf (Elt F) (sM.view.loc (c : Thread nD τ))) :
    sPts c g fullShare f = bigSep Finset.univ fun j : Fin 4 => rPts c g j f := by
  unfold sPts rPts
  refine pointsTo_parts (ℓ := sM.view.loc (c : Thread nD τ)) (fun i : S16x128.Idx => (i 0).val) (blk g) (blk_inj g) _ _ (fun j i h => ?_) (fun i => ?_) _ _
  · rw [setS] at h; exact (mem_rS g j i).mp h
  · rw [setG', mem_rG]
    constructor
    · intro h
      refine ⟨jOf (i 0).val, ?_⟩
      rw [setS, mem_rS]
      have := congrArg Fin.val h
      have h0 : (i 0).val < 16 := (i 0).isLt
      simp only [kG, gOf, jOf, blk] at this ⊢
      omega
    · rintro ⟨j, h⟩
      rw [setS, mem_rS] at h
      exact Fin.ext (by simp only [kG, gOf, blk] at h ⊢; omega)

/-- The whole array of sums is its four groups, -/
theorem s_groups (f : Buf (Elt F) (sM.view.loc (c : Thread nD τ))) :
    (sM.view.loc (c : Thread nD τ) ↦[Finset.univ]{fullShare} f : sProp 𝕄) = bigSep Finset.univ fun g : Fin 4 => sPts c g fullShare f := by
  unfold sPts
  refine pointsTo_parts kG id Function.injective_id _ _ (fun g i h => ?_) (fun i => ?_) _ _
  · rw [setG'] at h; exact (mem_rG g i).mp h
  · exact ⟨fun _ => ⟨kG i, by rw [setG', mem_rG]⟩, fun _ => Finset.mem_univ _⟩

/-- the received sums their slots by group, -/
theorem w_slots (f : Buf (Elt F) (wM.view.loc (c : Thread nD τ))) :
    (wM.view.loc (c : Thread nD τ) ↦[Finset.univ]{fullShare} f : sProp 𝕄)
      = bigSep Finset.univ fun p : Fin 4 × Fin 7 => wPts c p.1 p.2 f := by
  unfold wPts
  refine pointsTo_parts kD id Function.injective_id _ _ (fun p i h => ?_) (fun i => ?_) _ _
  · rw [setD] at h; exact (mem_rD p.1 p.2 i).mp h
  · exact ⟨fun _ => ⟨kD i, by rw [setD, mem_rD]⟩, fun _ => Finset.mem_univ _⟩

/-- the exponentials, and the result, their row blocks. -/
theorem e_blocks (f : Buf (Elt F) (eM.view.loc (c : Thread nD τ))) :
    (eM.view.loc (c : Thread nD τ) ↦[Finset.univ]{fullShare} f : sProp 𝕄)
      = bigSep Finset.univ fun p : Fin 4 × Fin 4 => ePts c p.1 p.2 f := by
  unfold ePts
  refine pointsTo_parts kX id Function.injective_id _ _ (fun p i h => ?_) (fun i => ?_) _ _
  · rw [setX_e] at h; exact (mem_rX p.1 p.2 i).mp h
  · exact ⟨fun _ => ⟨kX i, by rw [setX_e, mem_rX]⟩, fun _ => Finset.mem_univ _⟩
theorem o_blocks (f : Buf (Elt F) (oM.view.loc (c : Thread nD τ))) :
    (oM.view.loc (c : Thread nD τ) ↦[Finset.univ]{fullShare} f : sProp 𝕄)
      = bigSep Finset.univ fun p : Fin 4 × Fin 4 => oPts c p.1 p.2 f := by
  unfold oPts
  refine pointsTo_parts kX id Function.injective_id _ _ (fun p i h => ?_) (fun i => ?_) _ _
  · rw [setX_o] at h; exact (mem_rX p.1 p.2 i).mp h
  · exact ⟨fun _ => ⟨kX i, by rw [setX_o, mem_rX]⟩, fun _ => Finset.mem_univ _⟩

/-- A group's slots, as one region. -/
def wGrpSet (g : Fin 4) : Finset S7x16x128.Idx := Finset.univ.filter fun i => (kD i).1 = g
theorem w_group (g : Fin 4) (f : Buf (Elt F) (wM.view.loc (c : Thread nD τ))) :
    (wM.view.loc (c : Thread nD τ) ↦[wGrpSet g]{fullShare} f : sProp 𝕄) = bigSep Finset.univ fun d : Fin 7 => wPts c g d f := by
  unfold wPts
  refine pointsTo_parts (ℓ := wM.view.loc (c : Thread nD τ)) (fun i : S7x16x128.Idx => (kD i).2) id Function.injective_id _ _ (fun d i h => ?_) (fun i => ?_) _ _
  · rw [setD, mem_rD] at h; exact congrArg Prod.snd h
  · unfold wGrpSet
    rw [Finset.mem_filter]
    constructor
    · rintro ⟨-, h⟩
      exact ⟨(kD i).2, by rw [setD, mem_rD, ← h]⟩
    · rintro ⟨d, h⟩
      rw [setD, mem_rD] at h
      exact ⟨Finset.mem_univ _, congrArg Prod.fst h⟩
theorem rW_subset (g : Fin 4) : (wM.access (rW g)).set ⊆ wGrpSet g := fun i h => by
  rw [setW] at h
  exact Finset.mem_filter.mpr ⟨Finset.mem_univ _, congrArg Prod.fst (mem_rW g i h)⟩

end

/-! ## The loops -/

section
variable (X : Dev nD → Vec F S2048x1024 .bf16) (K : Dev nD × Key → ℕ) (c : Dev nD)

/-- Group `g` before its row blocks, and after. -/
abbrev rowsIn (g : Fin 4) : sProp 𝕄 := bigSep Finset.univ fun j : Fin 4 => iprop((∃ f, ePts (F := F) c g j f) ∗ ∃ f, rPts (F := F) c g j f)
abbrev rowsOut (g : Fin 4) : sProp 𝕄 := iprop((bigSep Finset.univ fun j : Fin 4 => ePts c g j (eArr X c)) ∗ sPts c g fullShare (sArr X c))

theorem run_rows (g : Fin 4) :
    iprop(xPts X c ∗ rowsIn c g) ⊢ run c (rowsP xM eM (Memref.isWhole_whole _) sM g) (fun _ => iprop(xPts X c ∗ rowsOut X c g)) := by
  unfold rowsP
  refine run_conseq c (run_forN c _ (fun _ => xPts X c) _ _ fun j => run_row X c g j) (BIBase.Entails.rfl) fun _ => ?_
  unfold rowsOut
  rw [bigSep_sep', sPts_rows]

/-- What a group's copies use, and what they leave. -/
abbrev sendIn (g : Fin 4) : sProp 𝕄 := bigSep Finset.univ fun d : Fin 7 =>
  iprop((∃ f, wPts (F := F) (peer c d) g d f) ∗ dutyTok EX (cell c (kSnd g d)) 0 0 ∗ dutyTok EX (cell (peer c d) (kRcv g d)) 0 0)
abbrev sendOut (g : Fin 4) : sProp 𝕄 := iprop(sPts c g (shareDrop fullShare 7) (sArr X c)
  ∗ bigSep Finset.univ fun d : Fin 7 => cred (tallyAt (cell c (kSnd g d)) () N))

theorem run_sends (g : Fin 4) :
    iprop((Ctx X K ∗ owe c (tail (grpOwe c) g)) ∗ (sPts c g fullShare (sArr X c) ∗ sendIn c g))
      ⊢ run c (sendsP sM wM cc0_scratch3 cc0_scratch4 c g)
          (fun _ => iprop((Ctx X K ∗ owe c (tail (grpOwe c) (g + 1))) ∗ sendOut X c g)) := by
  unfold sendsP
  refine run_conseq c (run_frame c (R := sPts c g (shareDrop fullShare 7) (sArr X c)) (run_forN c _
    (fun k => iprop(Ctx X K ∗ owe c (tail (grpOwe c) (g + 1) + tail (sendOwe c g) k))) _ _
    fun d => run_send X K c (tail (grpOwe c) (g + 1)) g d)) ?_ fun _ => ?_
  · rw [tail_step (grpOwe c) g, bigSep_sep']
    unfold sPts
    iintro ⟨HC, Hs, Hd⟩
    ihave Hs := (pointsTo_toks fullShare 7).1 $$ Hs
    icases Hs with ⟨Hr, Hs⟩
    isplitr [Hr]
    · isplitl [HC]; · iexact HC
      isplitl [Hs]; · iexact Hs
      iexact Hd
    iexact Hr
  · rw [tail_end, add_zero]
    iintro ⟨⟨HC, Hc⟩, Hs⟩
    isplitl [HC]; · iexact HC
    isplitl [Hs] <;> iassumption

/-- Group `g` before its second half, and after. -/
abbrev finIn (g : Fin 4) : sProp 𝕄 := iprop(
  (bigSep Finset.univ fun d : Fin 7 => iprop(cred (tallyAt (cell c (kSnd g d)) () N) ∗ cred (tallyAt (cell c (kRcv g d)) () N)
        ∗ atPos EX (cell c (kSnd g d)) 0 ∅ 0 ∗ atPos EX (cell c (kRcv g d)) 0 ∅ 0))
  ∗ sPts c g (shareDrop fullShare 7) (sArr X c)
  ∗ bigSep Finset.univ fun j : Fin 4 => iprop(ePts c g j (eArr X c) ∗ ∃ f, oPts (F := F) c g j f))
abbrev finOut (g : Fin 4) : sProp 𝕄 := iprop(
  (bigSep Finset.univ fun d : Fin 7 => iprop(semVal (cell c (kSnd g d)) 0 ∗ semVal (cell c (kRcv g d)) 0))
  ∗ sPts c g fullShare (sArr X c) ∗ (bigSep Finset.univ fun d : Fin 7 => wPts c g d (wArr X c))
  ∗ bigSep Finset.univ fun j : Fin 4 => iprop(ePts c g j (eArr X c) ∗ oPts c g j (oArr X c)))

theorem run_finish (g : Fin 4) :
    iprop((Ctx X K ∗ owe c 0) ∗ finIn X c g)
      ⊢ run c (finishP oM eM (Memref.isWhole_whole _) sM wM cc0_scratch3 cc0_scratch4 g)
          (fun _ => iprop((Ctx X K ∗ owe c 0) ∗ finOut X c g)) := by
  unfold finishP
  refine BIBase.Entails.trans ?_ (run_seq c (run_frame c (R := iprop(sPts c g (shareDrop fullShare 7) (sArr X c)
    ∗ bigSep Finset.univ fun j : Fin 4 => iprop(ePts c g j (eArr X c) ∗ ∃ f, oPts (F := F) c g j f)))
    (run_forN c _ (fun _ => iprop(Ctx X K ∗ owe c 0)) _ _ fun d => run_wait X K c g d)) fun _ => ?_)
  · iintro ⟨HC, Hd, HR⟩
    isplitl [HC Hd]
    · isplitl [HC] <;> iassumption
    iexact HR
  · simp only [Prog.lift, Prog.bind_op, Prog.bind_ret]
    simp only [bigSep_sep']
    iintro ⟨⟨HC, Hs, Hw, Hz, Hz'⟩, Hr, He, Ho⟩
    ihave Hs := (show iprop(sPts c g (shareDrop fullShare 7) (sArr X c)
        ∗ bigSep Finset.univ fun d : Fin 7 => sPts c g (shareTok fullShare 7 d) (sArr X c)) ⊢ sPts c g fullShare (sArr X c)
      from (pointsTo_toks fullShare 7).2) $$ [Hr Hs]
    · isplitl [Hr] <;> iassumption
    ihave Hw := (Entails.of_eq (w_group c g (wArr X c)).symm) $$ Hw
    unfold sPts
    iapply (wp_load_rect 𝒱₀ (c : Thread nD τ) none Set.univ (m := sM) (r := rG g) (Finset.Subset.refl _)) $$ Hs; iintro Hs
    iapply (wp_load_rect 𝒱₀ (c : Thread nD τ) none Set.univ (m := wM) (r := rW g) (rW_subset g)) $$ Hw; iintro Hw
    ihave Hw := (Entails.of_eq (w_group c g (wArr X c))) $$ Hw
    iapply (run_conseq c (run_frame c (R := iprop((Ctx X K ∗ owe c 0) ∗ sPts c g fullShare (sArr X c)
        ∗ (bigSep Finset.univ fun d : Fin 7 => wPts c g d (wArr X c))
        ∗ (bigSep Finset.univ fun d : Fin 7 => semVal (cell c (kSnd g d)) 0)
        ∗ (bigSep Finset.univ fun d : Fin 7 => semVal (cell c (kRcv g d)) 0)))
      (run_forN c _ (fun _ => iprop(emp)) _ _ fun j => run_quot X c g j)) BIBase.Entails.rfl fun _ => ?_)
    · simp only [bigSep_sep', finOut]
      iintro ⟨⟨-, He, Ho⟩, HC, Hs, Hw, Hz, Hz'⟩
      isplitl [HC]; · iexact HC
      isplitl [Hz Hz']
      · isplitl [Hz] <;> iassumption
      isplitl [Hs]; · iexact Hs
      isplitl [Hw]; · iexact Hw
      isplitl [He] <;> iassumption
    · simp only [bigSep_sep']
      unfold sPts
      isplitl [He Ho]
      · isplitr; · iempintro
        isplitl [He] <;> iassumption
      isplitl [HC]; · iexact HC
      isplitl [Hs]; · iexact Hs
      isplitl [Hw]; · iexact Hw
      isplitl [Hz] <;> iassumption

theorem bigSep_exch {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun p : A × B => Φ p.1 p.2, bigSep_univ_equiv (Equiv.prodComm B A), bigSep_univ_prod]
  rfl

/-- A program at the head of a longer one: from what it starts with, and what follows from what it leaves. -/
theorem run_then {p : DevProg F PUnit} {k : PUnit → DevProg F PUnit} {P Q : sProp 𝕄} {R : PUnit → sProp 𝕄}
    (h : P ⊢ run c p (fun _ => Q)) : P ⊢ iprop((Q -∗ run c (k ⟨⟩) R) -∗ run c (p >>= k) R) := by
  iintro HP Hk
  iapply (run_seq c (k := k) (R := R) (run_frame c (R := iprop(Q -∗ run c (k ⟨⟩) R)) h) fun _ => by
    iintro ⟨HQ, Hk⟩
    iapply Hk
    iexact HQ)
  isplitl [HP] <;> iassumption

/-- Groups 1, 2, 3: their row blocks and copies. -/
theorem run_later :
    iprop((Ctx X K ∗ xPts X c ∗ owe c (tail (grpOwe c) 1)) ∗ bigSep Finset.univ fun i : Fin 3 => iprop(rowsIn c i.succ ∗ sendIn c i.succ))
      ⊢ run c (forN 3 fun i => rowsP xM eM (Memref.isWhole_whole _) sM i.succ >>= fun _ =>
            sendsP sM wM cc0_scratch3 cc0_scratch4 c i.succ)
          (fun _ => iprop((Ctx X K ∗ xPts X c ∗ owe c 0) ∗ bigSep Finset.univ fun i : Fin 3 =>
            iprop((bigSep Finset.univ fun j : Fin 4 => ePts c i.succ j (eArr X c)) ∗ sendOut X c i.succ))) := by
  rw [← tail_end (grpOwe c)]
  refine run_forN c _ (fun k => iprop(Ctx X K ∗ xPts X c ∗ owe c (tail (grpOwe c) (k + 1)))) _ _ fun i => ?_
  iintro ⟨⟨HC, Hx, HO⟩, Hr, Hs⟩
  iapply (run_then c (run_rows X c i.succ)) $$ [Hx Hr]
  · isplitl [Hx] <;> iassumption
  iintro ⟨Hx, He, Hsum⟩
  iapply (run_conseq c (run_frame c (R := iprop(xPts X c ∗ bigSep Finset.univ fun j : Fin 4 => ePts c i.succ j (eArr X c)))
    (run_sends X K c i.succ)) BIBase.Entails.rfl fun _ => by
      iintro ⟨⟨⟨HC, HO⟩, Hs⟩, Hx, He⟩
      isplitl [HC HO Hx]
      · isplitl [HC]; · iexact HC
        isplitl [Hx]; · iexact Hx
        iexact HO
      isplitl [He] <;> iassumption)
  isplitr [Hx He]
  · isplitl [HC HO]
    · isplitl [HC]; · iexact HC
      iexact HO
    isplitl [Hsum] <;> iassumption
  isplitl [Hx] <;> iassumption

/-- What the body starts from: the staged `x`; each peer's signal duty and the rows it hands that peer; the row blocks; its
    own barrier; the copies' duties; the copies' ends; the result's blocks. -/
abbrev bodyIn : sProp 𝕄 := iprop(xPts X c
  ∗ (bigSep Finset.univ fun d : Fin 7 => iprop(dutyTok EX (cell (peer c d) kBar) 0 (Fin.rev d)
      ∗ bigSep Finset.univ fun g : Fin 4 => iprop(∃ f, wPts (F := F) c g (Fin.rev d) f)))
  ∗ (bigSep Finset.univ fun g : Fin 4 => rowsIn c g)
  ∗ (cred (tallyAt (cell c kBar) () 7) ∗ atPos EX (cell c kBar) 0 ∅ 0)
  ∗ (bigSep Finset.univ fun g : Fin 4 => bigSep Finset.univ fun d : Fin 7 =>
      iprop(dutyTok EX (cell c (kSnd g d)) 0 0 ∗ dutyTok EX (cell (peer c d) (kRcv g d)) 0 0))
  ∗ (bigSep Finset.univ fun g : Fin 4 => bigSep Finset.univ fun d : Fin 7 => iprop(cred (tallyAt (cell c (kRcv g d)) () N)
        ∗ atPos EX (cell c (kSnd g d)) 0 ∅ 0 ∗ atPos EX (cell c (kRcv g d)) 0 ∅ 0))
  ∗ bigSep Finset.univ fun g : Fin 4 => bigSep Finset.univ fun j : Fin 4 => iprop(∃ f, oPts (F := F) c g j f))

/-- What it leaves: its barrier closed, every group finished. -/
abbrev bodyOut : sProp 𝕄 := iprop(xPts X c ∗ semVal (cell c kBar) 0 ∗ bigSep Finset.univ fun g : Fin 4 => finOut X c g)

theorem run_prog :
    iprop((Ctx X K ∗ owe c (owe₀ c)) ∗ bodyIn X c)
      ⊢ run c (prog xM oM eM (Memref.isWhole_whole _) (Memref.isWhole_whole _) sM wM cc0_scratch3 cc0_scratch4)
          (fun _ => iprop((Ctx X K ∗ owe c 0) ∗ bodyOut X c)) := by
  unfold prog owe₀
  simp only [Prog.lift, Prog.bind_op, Prog.bind_ret, wp_deviceId]
  iintro ⟨HCO, Hx, Hsig, Hrows, Hbar, Htok, Hends, Ho⟩
  iapply (run_then c (run_forN c (signalP c) (fun k => iprop(Ctx X K ∗ owe c (tail (grpOwe c) 0 + tail (sigOwe c) k))) _ _
    fun d => run_signal X K c (tail (grpOwe c) 0) d)) $$ [HCO Hsig]
  · isplitl [HCO] <;> iassumption
  rw [tail_end, add_zero]
  iintro ⟨HCO, -⟩
  ihave Hrows := (Entails.of_eq (bigSep_first fun g : Fin 4 => rowsIn (F := F) c g)) $$ Hrows
  icases Hrows with ⟨Hrow, Hrows⟩
  iapply (run_then c (run_rows X c 0)) $$ [Hx Hrow]
  · isplitl [Hx] <;> iassumption
  iintro ⟨Hx, He, Hs⟩
  iapply (run_then c (run_barrier X K c)) $$ [HCO Hbar]
  · isplitl [HCO] <;> iassumption
  iintro ⟨HCO, Hz, Hw⟩
  ihave Hw := (Entails.of_eq (bigSep_exch fun (d : Fin 7) (g : Fin 4) => iprop(∃ f, wPts (F := F) (peer c d) g d f))) $$ Hw
  ihave Hsend := (show iprop((bigSep Finset.univ fun g : Fin 4 => bigSep Finset.univ fun d : Fin 7 => iprop(∃ f, wPts (F := F) (peer c d) g d f))
      ∗ bigSep Finset.univ fun g : Fin 4 => bigSep Finset.univ fun d : Fin 7 =>
        iprop(dutyTok EX (cell c (kSnd g d)) 0 0 ∗ dutyTok EX (cell (peer c d) (kRcv g d)) 0 0))
      ⊢ bigSep Finset.univ fun g : Fin 4 => sendIn (F := F) c g from by
    unfold sendIn
    simp only [bigSep_sep']
    exact BIBase.Entails.rfl) $$ [Hw Htok]
  · isplitl [Hw] <;> iassumption
  ihave Hsend := (Entails.of_eq (bigSep_first fun g : Fin 4 => sendIn (F := F) c g)) $$ Hsend
  icases Hsend with ⟨Hsnd, Hsend⟩
  iapply (run_then c (run_sends X K c 0)) $$ [HCO Hs Hsnd]
  · isplitl [HCO]; · iexact HCO
    isplitl [Hs] <;> iassumption
  iintro ⟨⟨HC, HO⟩, Hout⟩
  iapply (run_then c (run_later X K c)) $$ [HC HO Hx Hrows Hsend]
  · isplitl [HC HO Hx]
    · isplitl [HC]; · iexact HC
      isplitl [Hx]; · iexact Hx
      iexact HO
    rw [bigSep_sep']
    isplitl [Hrows] <;> iassumption
  iintro ⟨⟨HC, Hx, HO⟩, Houts⟩
  ihave Houts := (show iprop((iprop((bigSep Finset.univ fun j : Fin 4 => ePts c 0 j (eArr X c)) ∗ sendOut X c 0))
      ∗ bigSep Finset.univ fun i : Fin 3 => iprop((bigSep Finset.univ fun j : Fin 4 => ePts c i.succ j (eArr X c)) ∗ sendOut X c i.succ))
      ⊢ bigSep Finset.univ fun g : Fin 4 => iprop((bigSep Finset.univ fun j : Fin 4 => ePts c g j (eArr X c)) ∗ sendOut X c g) from
    Entails.of_eq (bigSep_first fun g : Fin 4 => iprop((bigSep Finset.univ fun j : Fin 4 => ePts c g j (eArr X c)) ∗ sendOut X c g)).symm)
    $$ [He Hout Houts]
  · isplitr [Houts]
    · isplitl [He] <;> iassumption
    iexact Houts
  iapply (run_conseq c (run_frame c (R := iprop(xPts X c ∗ semVal (cell c kBar) 0))
    (run_forN c _ (fun _ => iprop(Ctx X K ∗ owe c 0)) _ _ fun g => run_finish X K c g)) BIBase.Entails.rfl fun _ => by
      iintro ⟨⟨HCO, H⟩, Hx, Hz⟩
      isplitl [HCO]; · iexact HCO
      isplitl [Hx]; · iexact Hx
      isplitl [Hz] <;> iassumption)
  isplitr [Hx Hz]
  · isplitl [HC HO]
    · isplitl [HC] <;> iassumption
    unfold finIn
    simp only [bigSep_sep']
    icases Houts with ⟨He, Hd, Hc⟩
    icases Hends with ⟨Hc', Ha, Ha'⟩
    isplitl [Hc Hc' Ha Ha']
    · isplitl [Hc]; · iexact Hc
      isplitl [Hc']; · iexact Hc'
      isplitl [Ha] <;> iassumption
    isplitl [Hd]; · iexact Hd
    isplitl [He] <;> iassumption
  isplitl [Hx] <;> iassumption

end

end Cert.Softmax

end
-- ==== Proof.Deal.lean ====
/- What the launch deals out: every device's cells opened, the duties' tokens moved to the devices that pay them, and the
   credit that a device is owed. -/
module

public import proofs.«01_k».proof.Proof.Body

@[expose] public section

noncomputable section

namespace Cert.Softmax

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

/-! ## Cells and tokens -/

abbrev Pair : Type := Fin 4 × Fin 7
/-- The duties of a device's cells: seven at its barrier, one at each other cell. -/
abbrev Duty : Type := Fin 7 ⊕ (Pair ⊕ Pair)

/-- A duty's cell, round and name. -/
def tokOf (p : Dev nD × Duty) : GSem nD τ sig × ℕ × Fin 7 := match p.2 with
  | .inl d => (cell p.1 kBar, 0, d)
  | .inr k => (cell p.1 (.inr k), 0, 0)

theorem tokOf_inj : Function.Injective tokOf := by
  rintro ⟨c, d | k⟩ ⟨c', d' | k'⟩ h
  all_goals have h1 := cell_inj (a₁ := (c, _)) (a₂ := (c', _)) (congrArg Prod.fst h)
  · obtain rfl : c = c' := congrArg Prod.fst h1
    obtain rfl : d = d' := congrArg (fun x => x.2.2) h
    rfl
  · exact absurd (congrArg Prod.snd h1) (by simp)
  · exact absurd (congrArg Prod.snd h1) (by simp)
  · obtain rfl : c = c' := congrArg Prod.fst h1
    obtain rfl : k = k' := Sum.inr.inj (congrArg Prod.snd h1)
    rfl

def allCells : Finset (GSem nD τ sig) := Finset.univ.map ⟨fun p : Dev nD × Key => cell p.1 p.2, cell_inj⟩
def allToks : Finset (GSem nD τ sig × ℕ × Fin 7) := Finset.univ.map ⟨tokOf, tokOf_inj⟩

/-- The element of the ghost state a run starts from. -/
def u₀ : UU := (initOf (Pipeline.cells cfgs cellOf_inj) (Pipeline.launchToks cfgs cellOf_inj), initOf allCells allToks)

/-- The tokens of the duties at a device's own cells, -/
def ownToks (c : Dev nD) : sProp 𝕄 := bigSep Finset.univ fun k : Duty => dutyTok EX (tokOf (c, k)).1 (tokOf (c, k)).2.1 (tokOf (c, k)).2.2

/-- and of the duties that a device pays: a signal to each peer, its own copies' ends, the copies' ends at the peers. -/
def payToks (c : Dev nD) : sProp 𝕄 := iprop(
  (bigSep Finset.univ fun d : Fin 7 => dutyTok EX (cell (peer c d) kBar) 0 (Fin.rev d))
  ∗ (bigSep Finset.univ fun p : Pair => dutyTok EX (cell c (kSnd p.1 p.2)) 0 0)
  ∗ bigSep Finset.univ fun p : Pair => dutyTok EX (cell (peer c p.2) (kRcv p.1 p.2)) 0 0)

theorem ownToks_eq (c : Dev nD) : (ownToks c : sProp 𝕄) = iprop(
    (bigSep Finset.univ fun d : Fin 7 => dutyTok EX (cell c kBar) 0 d)
    ∗ (bigSep Finset.univ fun p : Pair => dutyTok EX (cell c (kSnd p.1 p.2)) 0 0)
    ∗ bigSep Finset.univ fun p : Pair => dutyTok EX (cell c (kRcv p.1 p.2)) 0 0) := by
  unfold ownToks
  rw [bigSep_univ_sum, bigSep_univ_sum]
  rfl

/-- A device and a peer's number, seen from the peer. -/
def flipPeer : Dev nD × Fin 7 ≃ Dev nD × Fin 7 where
  toFun p := (peer p.1 p.2, Fin.rev p.2)
  invFun p := (peer p.1 p.2, Fin.rev p.2)
  left_inv p := Prod.ext (rev_peer p.1 p.2) (Fin.rev_rev p.2)
  right_inv p := Prod.ext (rev_peer p.1 p.2) (Fin.rev_rev p.2)

/-- The devices moved by one peer's number. -/
def movePeer (d : Fin 7) : Dev nD ≃ Dev nD where
  toFun c := peer c d
  invFun c := peer c (Fin.rev d)
  left_inv c := rev_peer c d
  right_inv c := peer_rev c d

theorem toks_around : (bigSep Finset.univ fun c : Dev nD => (ownToks c : sProp 𝕄)) = bigSep Finset.univ fun c : Dev nD => payToks c := by
  have hb : (bigSep Finset.univ fun c : Dev nD => bigSep Finset.univ fun d : Fin 7 => (dutyTok EX (cell c kBar) 0 d : sProp 𝕄))
      = bigSep Finset.univ fun c : Dev nD => bigSep Finset.univ fun d : Fin 7 => dutyTok EX (cell (peer c d) kBar) 0 (Fin.rev d) := by
    rw [← bigSep_univ_prod fun p : Dev nD × Fin 7 => (dutyTok EX (cell p.1 kBar) 0 p.2 : sProp 𝕄), bigSep_univ_equiv flipPeer, bigSep_univ_prod]
    rfl
  have hr : (bigSep Finset.univ fun c : Dev nD => bigSep Finset.univ fun p : Pair => (dutyTok EX (cell c (kRcv p.1 p.2)) 0 0 : sProp 𝕄))
      = bigSep Finset.univ fun c : Dev nD => bigSep Finset.univ fun p : Pair => dutyTok EX (cell (peer c p.2) (kRcv p.1 p.2)) 0 0 := by
    rw [bigSep_exch, bigSep_exch fun (c : Dev nD) (p : Pair) => (dutyTok EX (cell (peer c p.2) (kRcv p.1 p.2)) 0 0 : sProp 𝕄)]
    exact bigSep_congr fun p _ => bigSep_univ_equiv (movePeer p.2) fun c => (dutyTok EX (cell c (kRcv p.1 p.2)) 0 0 : sProp 𝕄)
  simp only [ownToks_eq]
  unfold payToks
  rw [bigSep_sep', bigSep_sep', bigSep_sep', bigSep_sep', hb, hr]

/-! ## The cells opened -/

section
variable (X : Dev nD → Vec F S2048x1024 .bf16)

/-- What the starting element gives device `c`. -/
def G (c : Dev nD) : sProp 𝕄 := iprop(
  (bigSep Finset.univ fun k : Key => roundState EX (sched X) (cell c k) 0)
  ∗ (bigSep Finset.univ fun k : Key => reached EX (cell c k) 0)
  ∗ (bigSep Finset.univ fun k : Key => atPos EX (cell c k) 0 ∅ 0) ∗ ownToks c)

theorem fund_cells : BI.own (EX (initOf allCells allToks)) ⊢ (|==> bigSep Finset.univ (G X) : sProp 𝕄) := by
  have hC (Φ : GSem nD τ sig → sProp 𝕄) : bigSep allCells Φ = bigSep Finset.univ fun c : Dev nD => bigSep Finset.univ fun k : Key => Φ (cell c k) := by
    unfold allCells; rw [bigSep_map, bigSep_univ_prod]; rfl
  have hT : bigSep allToks (fun x => (dutyTok EX x.1 x.2.1 x.2.2 : sProp 𝕄)) = bigSep Finset.univ fun c : Dev nD => ownToks c := by
    unfold allToks ownToks; rw [bigSep_map, bigSep_univ_prod]; rfl
  have hG : (bigSep Finset.univ (G X) : sProp 𝕄) = iprop(bigSep allCells (fun g => roundState EX (sched X) g 0)
      ∗ bigSep allCells (fun g => reached EX g 0) ∗ bigSep allCells (fun g => atPos EX g 0 ∅ 0)
      ∗ bigSep allToks fun x => dutyTok EX x.1 x.2.1 x.2.2) := by
    rw [hC, hC, hC, hT]
    show (bigSep Finset.univ fun c => G X c) = _
    unfold G
    rw [bigSep_sep', bigSep_sep', bigSep_sep']
  rw [hG]
  exact Rounds.fund EX (sched X) allCells allToks

theorem bigSep_unit (Φ : Unit → sProp 𝕄) : bigSep Finset.univ Φ = Φ () := by
  rw [Finset.univ_unique, bigSep_singleton]

/-- A device's counters are its barrier's and its own. -/
theorem sems_eq (c : Dev nD) : (bigSep Finset.univ fun k : Key => (semVal (cell c k) 0 : sProp 𝕄))
    = iprop(unscopedSems0 c ∗ Pipeline.ownSems0 (Ix := Unit) (Name := ℕ) (U := UU) (Lvl := ℕ) (Val := Elt F) (τ := τ) osem c) := by
  rw [bigSep_univ_sum, bigSep_unit]
  refine congrArg₂ (fun P Q : sProp 𝕄 => iprop(P ∗ Q)) ?_ rfl
  unfold unscopedSems0
  rw [bigSep_eq_bigSepL_of_eq [SemLoc.reg barSem] (by decide) (by decide)]
  rfl

theorem open_cells (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Key => iprop(∃ κ : ℕ, cellInv EX (sched X) κ (cell c k)))
          ∗ (bigSep Finset.univ fun k : Key => reached EX (cell c k) 0)
          ∗ (bigSep Finset.univ fun k : Key => atPos EX (cell c k) 0 ∅ 0) ∗ ownToks c) := by
  unfold G
  iintro ⟨Hos, Hus, Hst, Hr, Hat, Htok⟩
  ihave Hv := (Entails.of_eq (sems_eq (F := F) c).symm) $$ [Hos Hus]
  · isplitl [Hus] <;> iassumption
  imod (show iprop((bigSep Finset.univ fun k : Key => semVal (cell c k) 0) ∗ bigSep Finset.univ fun k : Key => roundState EX (sched X) (cell c k) 0)
      ⊢ (|={Set.univ}=> bigSep Finset.univ fun k : Key => iprop(∃ κ : ℕ, cellInv EX (sched X) κ (cell c k)) : sProp 𝕄) from by
        rw [← bigSep_sep']
        exact (bigSep_mono fun k _ => (Rounds.body_intro EX (sched X) (cell c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- That every cell is open and at round 0. -/
def records (K : Dev nD × Key → ℕ) : sProp 𝕄 :=
  bigSep Finset.univ fun p : Dev nD × Key => iprop(cellInv EX (sched X) (K p) (cell p.1 p.2) ∗ reached EX (cell p.1 p.2) 0)

instance records_persistent (K : Dev nD × Key → ℕ) : BI.Persistent (records X K) := by unfold records; infer_instance

/-- What a device holds of the exchange once all cells are open. -/
def G' (c : Dev nD) : sProp 𝕄 := iprop(∃ K, records X K ∗ (bigSep Finset.univ fun k : Key => atPos EX (cell c k) 0 ∅ 0) ∗ payToks c)

theorem hold (K : Dev nD × Key → ℕ) (c : Dev nD) :
    iprop(records X K ∗ (bigSep Finset.univ fun k : Key => atPos EX (cell c k) 0 ∅ 0) ∗ payToks c) ⊢ G' X c := by
  unfold G'
  iintro H
  iexists K
  iexact H

theorem deal_each (K : Dev nD × Key → ℕ) :
    iprop(records X K ∗ (bigSep Finset.univ fun c : Dev nD => bigSep Finset.univ fun k : Key => atPos EX (cell c k) 0 ∅ 0)
      ∗ bigSep Finset.univ fun c : Dev nD => payToks c) ⊢ bigSep Finset.univ (G' X) := by
  rw [← bigSep_sep']
  refine BIBase.Entails.trans (sep_mono_left (BI.bigSep_of_persistent (Finset.univ : Finset (Dev nD)) (records X K))) ?_
  rw [← bigSep_sep']
  exact bigSep_mono fun c _ => hold X K c

theorem deal :
    (bigSep Finset.univ fun c : Dev nD => iprop((bigSep Finset.univ fun k : Key => iprop(∃ κ : ℕ, cellInv EX (sched X) κ (cell c k)))
          ∗ (bigSep Finset.univ fun k : Key => reached EX (cell c k) 0)
          ∗ (bigSep Finset.univ fun k : Key => atPos EX (cell c k) 0 ∅ 0) ∗ ownToks c) : sProp 𝕄)
      ⊢ bigSep Finset.univ (G' X) := by
  rw [bigSep_sep', bigSep_sep', bigSep_sep', toks_around,
    ← bigSep_univ_prod (fun p : Dev nD × Key => iprop(∃ κ : ℕ, cellInv EX (sched X) κ (cell p.1 p.2))),
    ← bigSep_univ_prod (fun p : Dev nD × Key => (reached EX (cell p.1 p.2) 0 : sProp 𝕄))]
  iintro ⟨HI, HR, Hat, Htok⟩
  ihave HK := (BI.bigSep_exists_pi Finset.univ (fun (p : Dev nD × Key) (κ : ℕ) => (cellInv EX (sched X) κ (cell p.1 p.2) : sProp 𝕄))) $$ HI
  icases HK with ⟨%K, HI⟩
  ihave #Hrec := (show iprop((bigSep Finset.univ fun p : Dev nD × Key => cellInv EX (sched X) (K p) (cell p.1 p.2))
      ∗ bigSep Finset.univ fun p : Dev nD × Key => reached EX (cell p.1 p.2) 0) ⊢ records X K from by
    unfold records; rw [bigSep_sep']) $$ [HI HR]
  · isplitl [HI] <;> iassumption
  iapply (deal_each X K)
  isplitr; · iexact Hrec
  isplitl [Hat] <;> iassumption

theorem glob : (bigSep Finset.univ fun c => iprop(Pipeline.ownSems0 (Ix := Unit) (Name := ℕ) (U := UU) (Lvl := ℕ) (Val := Elt F) (τ := τ) osem c
      ∗ unscopedSems0 c ∗ G X c) : sProp 𝕄) ⊢ |={Set.univ}=> bigSep Finset.univ (G' X) :=
  ((bigSep_mono fun c _ => open_cells X c).trans (bigSep_fupd _ _)).trans (BI.fupd_mono (deal X))
end

/-! ## What a device is owed -/

/-- Credits of one cell add up. -/
theorem cred_times (g : GSem nD τ sig) (a : ℕ) : ∀ n : ℕ,
    (bigSep Finset.univ fun _ : Fin n => (cred (tallyAt g () a) : sProp 𝕄)) ⊢ cred (tallyAt g () (n * a))
  | 0 => by
    rw [Nat.zero_mul, show (tallyAt g () 0 : CellTallies nD τ sig Unit) = 0 by unfold tallyAt; rw [Finsupp.single_zero, tallyOn_zero], cred_zero]
    exact Entails.of_eq bigSep_empty
  | n + 1 => by
    rw [bigSep_first, Nat.succ_mul, Nat.add_comm, ← tallyAt_add]
    exact (sep_mono_right (cred_times g a n)).trans (cred_add _ _).2

theorem creds (c : Dev nD) : (Pipeline.launchCred owe₀ c : sProp 𝕄)
    ⊢ iprop(cred (tallyAt (cell c kBar) () 7) ∗ bigSep Finset.univ fun p : Pair => cred (tallyAt (cell c (kRcv p.1 p.2)) () N)) := by
  have h : owe₀ = fun c => (∑ p : Pair, sendOwe c p.1 p.2) + ∑ d, sigOwe c d := funext fun c => by
    unfold owe₀ grpOwe
    rw [tail_zero, tail_zero, Fintype.sum_prod_type]
    simp only [tail_zero]
  rw [h, Pipeline.launchCred_add, Pipeline.launchCred_sum Finset.univ (fun (p : Pair) c => sendOwe c p.1 p.2), Pipeline.launchCred_sum Finset.univ (fun d c => sigOwe c d)]
  refine (BI.sep_mono (bigSep_mono fun p _ => ?_) ((bigSep_mono fun d _ => ?_).trans (cred_times (cell c kBar) 1 7))).trans BI.sep_comm
  · exact Pipeline.launchCred_tallyAt (csem (kRcv p.1 p.2)) (fun c => peer c p.2) (fun c => peer c (Fin.rev p.2))
      (fun c => peer_rev c p.2) (fun c => rev_peer c p.2) () N c
  · exact Pipeline.launchCred_tallyAt (csem kBar) (fun c => peer c d) (fun c => peer c (Fin.rev d))
      (fun c => peer_rev c d) (fun c => rev_peer c d) () 1 c

end Cert.Softmax

end
-- ==== Proof.Parts.lean ====
/- The kernel's buffers and ghost state as the launch holds them, and as the body takes and leaves them. -/
module

public import proofs.«01_k».proof.Proof.Deal

@[expose] public section

noncomputable section

namespace Cert.Softmax

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal Cert.KernelIdeal.Gen

variable {F : FTy → Type} [FloatOps F]

local notation "𝕄" => MT nD τ sig Unit (Elt F) ℕ UU ℕ

theorem some_each {A B C : Type} [Fintype A] [Fintype B] (f : C) (Φ : A → B → C → sProp 𝕄) :
    (bigSep Finset.univ fun a => bigSep Finset.univ fun b => Φ a b f)
      ⊢ bigSep Finset.univ fun a => bigSep Finset.univ fun b => iprop(∃ f, Φ a b f) :=
  bigSep_mono fun a _ => bigSep_mono fun b _ => exists_intro (Φ := Φ a b) f

theorem sum_parts {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

section
variable (c : Dev nD)

/-! ## The buffers, part by part -/

theorem e_split : iprop(∃ f, eM.view.loc (c : Thread nD τ) ↦[Finset.univ]{fullShare} f)
    ⊢ (bigSep Finset.univ fun g : Fin 4 => bigSep Finset.univ fun j : Fin 4 => iprop(∃ f, ePts c g j f) : sProp 𝕄) := by
  iintro ⟨%f, H⟩
  ihave H := (Entails.of_eq ((e_blocks c f).trans (bigSep_univ_prod _))) $$ H
  iapply (some_each f (fun g j f => ePts (F := F) c g j f))
  iexact H

theorem o_split : iprop(∃ f, oM.view.loc (c : Thread nD τ) ↦[Finset.univ]{fullShare} f)
    ⊢ (bigSep Finset.univ fun g : Fin 4 => bigSep Finset.univ fun j : Fin 4 => iprop(∃ f, oPts c g j f) : sProp 𝕄) := by
  iintro ⟨%f, H⟩
  ihave H := (Entails.of_eq ((o_blocks c f).trans (bigSep_univ_prod _))) $$ H
  iapply (some_each f (fun g j f => oPts (F := F) c g j f))
  iexact H

theorem s_split : iprop(∃ f, sM.view.loc (c : Thread nD τ) ↦[Finset.univ]{fullShare} f)
    ⊢ (bigSep Finset.univ fun g : Fin 4 => bigSep Finset.univ fun j : Fin 4 => iprop(∃ f, rPts c g j f) : sProp 𝕄) := by
  iintro ⟨%f, H⟩
  ihave H := (Entails.of_eq ((s_groups c f).trans (bigSep_congr fun g _ => sPts_rows c g f))) $$ H
  iapply (some_each f (fun g j f => rPts (F := F) c g j f))
  iexact H

theorem w_split : iprop(∃ f, wM.view.loc (c : Thread nD τ) ↦[Finset.univ]{fullShare} f)
    ⊢ (bigSep Finset.univ fun d : Fin 7 => bigSep Finset.univ fun g : Fin 4 => iprop(∃ f, wPts c g (Fin.rev d) f) : sProp 𝕄) := by
  iintro ⟨%f, H⟩
  ihave H := (Entails.of_eq (((w_slots c f).trans (bigSep_univ_prod _)).trans ((bigSep_exch _).trans (bigSep_univ_equiv Fin.revPerm _)))) $$ H
  iapply (some_each f (fun d g f => wPts (F := F) c g (Fin.rev d) f))
  iexact H

/-! ## A device's share of the exchange -/

/-- Its places in its cells' rounds, the tokens of the duties it pays, and the credit it is owed. -/
def held : sProp 𝕄 := iprop((bigSep Finset.univ fun k : Key => atPos EX (cell c k) 0 ∅ 0) ∗ payToks c
  ∗ cred (tallyAt (cell c kBar) () 7) ∗ bigSep Finset.univ fun p : Pair => cred (tallyAt (cell c (kRcv p.1 p.2)) () N))

variable (X : Dev nD → Vec F S2048x1024 .bf16)

theorem body_in : iprop(held c ∗ Pipeline.scopedRest cfg0.spec c ∗ xPts X c ∗ ∃ f, oM.view.loc (c : Thread nD τ) ↦[Finset.univ]{fullShare} f)
    ⊢ bodyIn X c := by
  unfold held payToks
  rw [show cfg0.spec = spec0 from rfl, scopedRest0_eq, sum_parts, bigSep_unit, sum_parts]
  iintro ⟨⟨⟨HaB, HaS, HaR⟩, ⟨HtB, HtS, HtR⟩, HcB, HcR⟩, ⟨He, Hs, Hw⟩, Hx, Ho⟩
  ihave He := (e_split (F := F) c) $$ He
  ihave Hs := (s_split (F := F) c) $$ Hs
  ihave Hw := (w_split (F := F) c) $$ Hw
  ihave Ho := (o_split (F := F) c) $$ Ho
  isplitl [Hx]; · iexact Hx
  isplitl [HtB Hw]
  · rw [bigSep_sep']
    isplitl [HtB] <;> iassumption
  isplitl [He Hs]
  · iapply (show iprop((bigSep Finset.univ fun g : Fin 4 => bigSep Finset.univ fun j : Fin 4 => iprop(∃ f, ePts (F := F) c g j f))
        ∗ bigSep Finset.univ fun g : Fin 4 => bigSep Finset.univ fun j : Fin 4 => iprop(∃ f, rPts (F := F) c g j f))
        ⊢ bigSep Finset.univ fun g : Fin 4 => rowsIn (F := F) c g from by
      unfold rowsIn
      simp only [bigSep_sep']
      exact BIBase.Entails.rfl)
    isplitl [He] <;> iassumption
  isplitl [HcB HaB]
  · isplitl [HcB] <;> iassumption
  isplitl [HtS HtR]
  · rw [← bigSep_univ_prod fun p : Pair => iprop(dutyTok EX (cell c (kSnd p.1 p.2)) 0 0 ∗ dutyTok EX (cell (peer c p.2) (kRcv p.1 p.2)) 0 0), bigSep_sep']
    isplitl [HtS] <;> iassumption
  isplitl [HcR HaS HaR]
  · rw [← bigSep_univ_prod fun p : Pair => iprop(cred (tallyAt (cell c (kRcv p.1 p.2)) () N)
        ∗ atPos EX (cell c (kSnd p.1 p.2)) 0 ∅ 0 ∗ atPos EX (cell c (kRcv p.1 p.2)) 0 ∅ 0), bigSep_sep', bigSep_sep']
    isplitl [HcR]; · iexact HcR
    isplitl [HaS]; · iexact HaS
    iexact HaR
  iexact Ho

theorem body_out : bodyOut X c ⊢ iprop((unscopedSems0 c
      ∗ Pipeline.ownSems0 (Ix := Unit) (Name := ℕ) (U := UU) (Lvl := ℕ) (Val := Elt F) (τ := τ) osem c ∗ Pipeline.scopedRest cfg0.spec c)
    ∗ xPts X c ∗ oM.view.loc (c : Thread nD τ) ↦[Finset.univ]{fullShare} oArr X c) := by
  unfold bodyOut finOut
  simp only [bigSep_sep']
  iintro ⟨Hx, HzB, ⟨HzS, HzR⟩, Hs, Hw, He, Ho⟩
  ihave Hs := (Entails.of_eq (s_groups c (sArr X c)).symm) $$ Hs
  ihave Hw := (Entails.of_eq ((w_slots c (wArr X c)).trans (bigSep_univ_prod _)).symm) $$ Hw
  ihave He := (Entails.of_eq ((e_blocks c (eArr X c)).trans (bigSep_univ_prod _)).symm) $$ He
  ihave Ho := (Entails.of_eq ((o_blocks c (oArr X c)).trans (bigSep_univ_prod _)).symm) $$ Ho
  ihave Hz := (show iprop(semVal (cell c kBar) 0 ∗ (bigSep Finset.univ fun g : Fin 4 => bigSep Finset.univ fun d : Fin 7 => semVal (cell c (kSnd g d)) 0)
      ∗ bigSep Finset.univ fun g : Fin 4 => bigSep Finset.univ fun d : Fin 7 => semVal (cell c (kRcv g d)) 0)
      ⊢ (bigSep Finset.univ fun k : Key => (semVal (cell c k) 0 : sProp 𝕄)) from by
    rw [bigSep_univ_sum, bigSep_unit, bigSep_univ_sum, bigSep_univ_prod, bigSep_univ_prod]
    exact BIBase.Entails.rfl) $$ [HzB HzS HzR]
  · isplitl [HzB]; · iexact HzB
    isplitl [HzS] <;> iassumption
  ihave Hz := (Entails.of_eq (sems_eq (F := F) c)) $$ Hz
  icases Hz with ⟨HzU, HzO⟩
  rw [show cfg0.spec = spec0 from rfl, scopedRest0_eq]
  isplitl [HzU HzO He Hs Hw]
  · isplitl [HzU]; · iexact HzU
    isplitl [HzO]; · iexact HzO
    isplitl [He]; · iexists (eArr X c); iexact He
    isplitl [Hs]; · iexists (sArr X c); iexact Hs
    iexists (wArr X c); iexact Hw
  isplitl [Hx] <;> iassumption
end

end Cert.Softmax

end
-- ==== Proof.Launch.lean ====
/- The kernel's run on the eight devices: from any memory, every device ends with its result array at the computed contents,
   its argument as it was, and every counter at zero. -/
module

public import proofs.«01_k».proof.Proof.Parts
public import proofs.«01_k».proof.Proof.Gen.KernelIdeal.Points
public import Idealize.ShloMosaic.Lib.Pipeline.CollectiveSegs

@[expose] public section

noncomputable section

namespace Cert.Softmax

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- A device's block of the argument, as staged. -/
def xstg (c : Dev nD) : Vec F S2048x1024 .bf16 := (win0_0.blk (0 : Fin 1)).view.read (Elt F) ((s₀ m ρ).mem ((c : Thread nD τ).loc main_arg0))

/-- What a device starts the body with. -/
def start (c : Dev nD) : sProp 𝕄 := iprop((∃ K, Ctx (xstg m ρ) K) ∗ held c)

/-- Before the body, and after it. -/
def before₀ (c : Dev nD) : sProp 𝕄 := iprop(start m ρ c ∗ Pipeline.scopedRest cfg0.spec c)
def after₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => oArr (xstg m ρ) c
  Φ t := match t with
    | ⟨0, _⟩ => before₀ m ρ c
    | ⟨_ + 1, _⟩ => after₁ c
  q _ := fullShare
  owed t := match t with
    | ⟨0, _⟩ => owe₀ c
    | ⟨_ + 1, _⟩ => 0

/-! ## The body's obligation -/

abbrev stg (c : Dev nD) (b : Ref sig .tc) (V : b.ty.Contents (Elt F)) : sProp 𝕄 :=
  iprop(∃ f : Buf (Elt F) ((c : Thread nD τ).loc b), ⌜f = V⌝ ∗ ((c : Thread nD τ).loc b) ↦{fullShare} f)

theorem owns_stg (c : Dev nD) (b : Ref sig .tc) (V : b.ty.Contents (Elt F)) :
    (owns (Ix := Unit) (Name := ℕ) (U := UU) (Lvl := ℕ) (c : Thread nD τ) (Memref.whole b) fullShare V : sProp 𝕄) = stg c b V := by
  unfold owns; simp only [Memref.view_whole, View.read_whole, View.set_whole]

def obIn (c : Dev nD) : sProp 𝕄 :=
  iprop(before₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def obOut (c : Dev nD) : sProp 𝕄 :=
  iprop(after₁ c ∗ (dats m ρ 0 c).owesAt () t0_0.succ
    ∗ stg c cc0_stg0_0 (xstg m ρ c) ∗ stg c cc0_stg1_0 (oArr (xstg m ρ) c))

theorem staged (c : Dev nD) (d) : (dats (F := F) m ρ 0 c).before (0 : Fin 2) t0_0 d = xstg m ρ c := by
  unfold Dat.before
  rw [if_pos (fetch0_0 t0_0)]
  rfl

theorem ob_in (c : Dev nD) : obIn m ρ c ⊢ iprop(∃ K, (Ctx (xstg m ρ) K ∗ owe c (owe₀ c)) ∗ bodyIn (xstg m ρ) c) := by
  unfold obIn before₀ start Dat.owesAt Pipeline.owesWithin owe
  rw [show (dats m ρ 0 c).owed t0_0.castSucc = owe₀ c from rfl]
  iintro ⟨⟨⟨⟨%K, HC⟩, Hh⟩, Hscr⟩, ⟨%W, -, HO⟩, ⟨%d0, %g0, %hg0, Hx⟩, ⟨%d1, %g1, -, Hout⟩⟩
  obtain rfl : g0 = xstg m ρ c := hg0.trans (staged m ρ c d0)
  iexists K
  isplitl [HC HO]
  · isplitl [HC]; · iexact HC
    iexists W; iexact HO
  iapply (body_in c (xstg m ρ))
  isplitl [Hh]; · iexact Hh
  isplitl [Hscr]; · iexact Hscr
  isplitl [Hx]; · unfold xPts; iexact Hx
  iexists g1; iexact Hout

theorem ob_out (K : Dev nD × Key → ℕ) (c : Dev nD) : iprop((Ctx (xstg m ρ) K ∗ owe c 0) ∗ bodyOut (xstg m ρ) c) ⊢ obOut m ρ c := by
  unfold obOut after₁ Dat.owesAt Pipeline.owesWithin owe
  rw [show (dats m ρ 0 c).owed t0_0.succ = 0 from rfl]
  iintro ⟨⟨-, ⟨%W, HO⟩⟩, Hb⟩
  ihave Hb := (body_out c (xstg m ρ)) $$ Hb
  icases Hb with ⟨Hr, Hx, Ho⟩
  isplitl [Hr]; · iexact Hr
  isplitl [HO]
  · iexists W
    isplitr; · ipureintro; exact fun _ _ => Or.inl trivial
    iexact HO
  isplitl [Hx]
  · iexists _; isplitr; · (ipureintro; rfl)
    unfold xPts; iexact Hx
  iexists _; isplitr; · (ipureintro; rfl)
  iexact Ho

theorem ob_run (c : Dev nD) : obIn m ρ c ⊢ run c
    (prog xM oM eM (Memref.isWhole_whole _) (Memref.isWhole_whole _) sM wM cc0_scratch3 cc0_scratch4) (fun _ => obOut m ρ c) :=
  (ob_in m ρ c).trans (exists_elim fun K => run_conseq c (run_prog (xstg m ρ) K c) BIBase.Entails.rfl fun _ => ob_out m ρ K c)

set_option maxRecDepth 100000 in
theorem ob_body (c : Dev nD) : obIn m ρ c ⊢ run c (bodyAt0 t0_0) (fun _ => obOut m ρ c) := by
  rw [show bodyAt0 (F := F) t0_0 = cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 from rfl, body_eq_prog]
  exact ob_run m ρ c

/-- What the body leaves, window by window. -/
theorem ob_post (c : Dev nD) : obOut m ρ c = iprop((dats m ρ 0 c).Φ t0_0.succ ∗ (dats m ρ 0 c).owesAt () t0_0.succ
    ∗ stg c cc0_stg0_0 ((dats m ρ 0 c).after 0 t0_0) ∗ stg c cc0_stg1_0 ((dats m ρ 0 c).after 1 t0_0)) := by
  unfold obOut
  refine congrArg₂ (fun P Q : sProp 𝕄 => iprop(P ∗ Q)) rfl (congrArg₂ (fun P Q : sProp 𝕄 => iprop(P ∗ Q)) rfl ?_)
  exact congrArg₂ (fun P Q : sProp 𝕄 => iprop(P ∗ Q)) rfl rfl

set_option maxRecDepth 100000 in
theorem obligation (c : Dev nD) : BodyObligation (dats (F := F) m ρ 0 c) (defs₀ (F := F)) 𝒱₀ () Set.univ := fun t => by
  rw [fin_N0 t, bigSep_W0, bigSep_W0]
  simp only [owns_stg]
  exact BIBase.Entails.trans (Q := obIn m ρ c) (Entails.of_eq rfl)
    ((ob_body m ρ c).trans (wp_mono _ _ _ fun _ => Entails.of_eq (ob_post m ρ c)))

/-! ## The launch -/

theorem osem_scoped : ∀ k, (osem k).isScoped .tc = true := by decide

/-- No semaphore of the exchange is a staging buffer's. -/
theorem not_stage (w : Fin cfg0.W) (s) (k : Key) : csem k ≠ .dma ((cfg0.win w).sem s) := by
  have hw : ∀ w : Fin cfg0.W, ∀ s, ((cfg0.win w).sem s).val < 2 := by decide
  rcases k with _ | ⟨g, d⟩ | ⟨g, d⟩ <;> intro h
  · exact nomatch h
  all_goals
    have h1 := congrArg Fin.val (SemLoc.dma.inj h)
    have h2 := hw w s
    rw [← h1] at h2
    simp only [semAt_snd, semAt_rcv] at h2
    omega

theorem ownSemFacts : Pipeline.OwnSemFacts cfg0.spec osem where
  isScoped := osem_scoped
  inj := osem_inj
  disj k w s := not_stage w s (.inr k)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' (xstg m ρ) c)
      ⊢ |={Set.univ}=> iprop(start m ρ c ∗ emp) := by
  unfold G' start held records
  iintro ⟨-, Hlev, Hcr, -, ⟨%K, Hrec, Hat, Htok⟩⟩
  ihave Hc := (creds (F := F) c) $$ Hcr
  icases Hc with ⟨HcB, HcR⟩
  imodintro
  isplitl
  · isplitl [Hrec Hlev]
    · iexists K
      unfold Ctx
      isplitl [Hrec] <;> iassumption
    isplitl [Hat]; · iexact Hat
    isplitl [Htok]; · iexact Htok
    isplitl [HcB] <;> iassumption
  · iempintro

theorem first_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl]
  unfold before₀
  iintro ⟨Hs, -, Hr⟩
  isplitl [Hs] <;> iassumption

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₁ c from rfl]
  exact BIBase.Entails.rfl

theorem waits (c : Dev nD) : (levAts L lv : sProp 𝕄) ⊢ Pipeline.cellsWaits cfgs (dats m ρ) () 0 c :=
  Pipeline.cellsWaits_intro cfgs (dats m ρ) () 0 c fun w s t => mayWait c _ _ (by
    rw [show lv ((c : Thread nD τ), .dma ((cfg0.win w).sem s)) () = 0 by unfold lv; rw [keyOf_none (not_stage w s)]; rfl]
    rcases t with ⟨_ | _, ht⟩
    · exact above_owe₀ c
    · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every fair run of the eight devices ends, with the arrays at the computed contents and
    every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_cells (xstg m ρ)) $$ HX with HG
      imodintro
      isplitl [HP] <;> iassumption)
    (hglob := glob (xstg m ρ))
    (hA := fun _ _ => rfl) (hpf := fun _ k => k.elim0)
    (X := start m ρ) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it was, -/
theorem finalA_x (c : Dev nD) : finalA m ρ c (0 : Fin 2) = m ((c : Thread nD τ).loc main_arg0) :=
  (dats (F := F) m ρ 0 c).arrAt_in (0 : Fin 2) rfl _

/-- A window's one block is its whole array: at offset zero in both axes. -/
theorem off_x : (fun a => (win0_0.index (0 : Fin 1)) a * main_arg0.ty.shape.size a) = fun _ => 0 := funext fun a => by fin_cases a <;> decide
theorem off_o : (fun a => (win0_1.index (0 : Fin 1)) a * main_v1.ty.shape.size a) = fun _ => 0 := funext fun a => by fin_cases a <;> decide

/-- staged it is the array itself, -/
theorem xstg_eq (c : Dev nD) : xstg m ρ c = m ((c : Thread nD τ).loc main_arg0) :=
  Memref.read_access_unit_zero (Elt F) main_arg0 off_x (fun a => by fin_cases a <;> decide) _

/-- and the result array ends at the computed contents. -/
theorem finalA_o (c : Dev nD) : finalA m ρ c (1 : Fin 2) = oArr (xstg m ρ) c := by
  refine (Memref.read_access_unit_zero (Elt F) main_v1 off_o (fun a => by fin_cases a <;> decide) _).symm.trans ?_
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end Cert.Softmax

end
-- ==== Proof.Value.lean ====
/- What the kernel computes, over the extended reals.

   A device's exponentials are its elements' exponentials and its row sums are sums of exponentials;
   a row's own sum and the seven received are, together, the sum over the eight devices; and the
   result is each exponential times the reciprocal of its row's total. -/
module

public import proofs.«01_k».proof.Proof.Geo
public import Idealize.ShloMosaic.Lib.ValueIdx
public import Idealize.ShloMosaic.Lib.Pipeline.Value
public import Idealize.ShloMosaic.Lib.IdealHost
public import Idealize.ShloMosaic.PureOps.Ideal.Laws

@[expose] public section

noncomputable section

namespace Cert.Softmax

open Idealize.ShloMosaic Idealize.SL.Sem Cert.KernelIdeal Cert.KernelIdeal.Gen
open Idealize.ShloMosaic.ValueIdx (ix2 ix3 eq_ix2 eq_ix3)

/-! ## One block -/

theorem expOf_apply (x : Vec Ideal S128x1024 .bf16) (y : S128x1024.Idx) : expOf x y = Ideal.exp (x y) := by
  unfold expOf k0_pay4 k0_pay3
  simp only [shapeCast_self]
  rfl

/-- The sums of a block of rows are the sums of its exponentials. -/
theorem sumOf_apply (x : Vec Ideal S128x1024 .bf16) (l : Fin 128) :
    sumOf x (ix2 (0 : Fin 1) l) = ∑ k : Fin 1024, Ideal.exp (x (ix2 l k)) := by
  have h : sumOf x (ix2 (0 : Fin 1) l) = ∑ k : dot_S1x1024_S128x1024_S1x128_1_1_0_0_n_n.contr.Idx,
      Ideal.exp (x (dot_S1x1024_S128x1024_S1x128_1_1_0_0_n_n.rhsIdx (ix2 (0 : Fin 1) l) k)) := by
    unfold sumOf k0_pay5 k0_pay2 k0_pay3
    simp only [shapeCast_self, matmul]
    rw [Ideal.matmul_constant_zero_apply]
    refine Finset.sum_congr rfl fun k _ => ?_
    show Ideal.ofBits .bf16 0x3F80#16 * Ideal.exp _ = _
    rw [Ideal.ofBits_one_bf16, one_mul]
  rw [h, ← Equiv.sum_comp (ValueIdx.contrEquiv1 dot_S1x1024_S128x1024_S1x128_1_1_0_0_n_n 1024 rfl rfl).symm]
  refine Finset.sum_congr rfl fun k _ => ?_
  congr 2
  funext a
  match a with
  | ⟨0, _⟩ => rfl
  | ⟨1, _⟩ => rfl

/-- The reciprocals of a group's totals. -/
theorem recipOf_apply (s : Vec Ideal S4x128 .f32) (w : Vec Ideal S7x4x128 .f32) (j : Fin 4) (l : Fin 128) :
    recipOf s w (ix2 j l) = Ideal.div 1 (s (ix2 j l) + ∑ d : Fin 7, w (ix3 d j l)) := by
  have h := Ideal.multiReduction_add_single w 0x00000000#32 reduces_S7x4x128_S4x128 (.inl rfl) rfl (ix2 j l)
  refine congrArg₂ Ideal.div Ideal.ofBits_one_f32 (congrArg (s (ix2 j l) + ·) (h.trans ?_))
  refine Finset.sum_congr rfl fun d _ => congrArg w ?_
  funext a
  match a with
  | ⟨0, _⟩ => rfl
  | ⟨1, _⟩ => rfl
  | ⟨2, _⟩ => rfl

/-- The quotients of a block: each exponential by its row's reciprocal. -/
theorem quotOf_apply (j : Fin 4) (s : Vec Ideal S4x128 .f32) (w : Vec Ideal S7x4x128 .f32) (e : Vec Ideal S128x1024 .bf16)
    (r : Fin 128) (k : Fin 1024) : quotOf j s w e (ix2 r k) = e (ix2 r k) * recipOf s w (ix2 j r) := by
  unfold quotOf
  rw [ValueIdx.truncf_apply, ValueIdx.shapeCast_1ab_ab_apply, ValueIdx.mulf_apply, ValueIdx.extf_apply,
    ValueIdx.shapeCast_ab_1ab_apply]
  congr 1
  rw [broadcastTo_apply _ _ _ (ix3 (0 : Fin 1) r (0 : Fin 1)) (by intro a; match a with | ⟨0, _⟩ => rfl | ⟨1, _⟩ => rfl | ⟨2, _⟩ => rfl),
    shapeCast_apply _ _ _ (ix2 (0 : Fin 1) r) (by
      rw [Shape.rowMajor_val_three, Shape.rowMajor_val_two]
      show _ = _
      simp),
    ValueIdx.slice2_axis0_apply (j : ℕ) _ _ (0 : Fin 1) r j rfl]

/-! ## The whole array -/

section
variable (X : Dev nD → Vec Ideal S2048x1024 .bf16)

/-- The sum of the exponentials of row `a` over device `c`'s columns. -/
def rowSum (c : Dev nD) (a : Fin 2048) : EReal := ∑ k : Fin 1024, Ideal.exp (X c (ix2 a k))

/-- Element `(r, k)` of row block `(g, j)` is element `k` of row `128 (4 g + j) + r`. -/
theorem rowsOf_apply (x : Vec Ideal S2048x1024 .bf16) (g j : Fin 4) (r : Fin 128) (k : Fin 1024) (a : Fin 2048)
    (h : a.val = 128 * blk g j + r) : rowsOf x g j (ix2 r k) = x (ix2 a k) := by
  unfold rowsOf
  congr 1
  rw [eq_ix2 ((rX g j).emb (ix2 r k))]
  exact congrArg₂ ix2 (Fin.ext ((emb_rX0 g j _).trans h.symm)) (emb_rX1 g j _)

theorem sArr_apply (c : Dev nD) (b : Fin 16) (l : Fin 128) (a : Fin 2048) (h : a.val = 128 * b.val + l) :
    sArr X c (ix2 b l) = rowSum X c a := by
  have e : sArr X c (ix2 b l) = sumOf (rowsOf (X c) (gOf b.val) (jOf b.val)) (ix2 (0 : Fin 1) l) := rfl
  rw [e, sumOf_apply]
  refine Finset.sum_congr rfl fun k _ => congrArg Ideal.exp (rowsOf_apply _ _ _ _ _ a ?_)
  rw [h]
  simp only [blk, gOf, jOf]
  omega

theorem sGrp_apply (c : Dev nD) (g j : Fin 4) (l : Fin 128) (a : Fin 2048) (h : a.val = 128 * blk g j + l) :
    sGrp X c g (ix2 j l) = rowSum X c a := by
  unfold sGrp
  rw [eq_ix2 ((rG g).emb (ix2 j l))]
  refine sArr_apply X c _ _ a ?_
  rw [h, ValueKit.rect_emb_unit_val, ValueKit.rect_emb_unit_val]
  show _ = 128 * (4 * (g : ℕ) + j) + (0 + l)
  unfold blk; omega

theorem wGrp_apply (c : Dev nD) (g j : Fin 4) (d : Fin 7) (l : Fin 128) (a : Fin 2048) (h : a.val = 128 * blk g j + l) :
    wGrp X c g (ix3 d j l) = rowSum X (from' c d) a := by
  have hd : (rW g).emb (ix3 d j l) 0 = d := Fin.ext (by rw [ValueKit.rect_emb_unit_val]; exact Nat.zero_add _)
  unfold wGrp wArr
  rw [hd]
  refine sArr_apply X (from' c d) _ _ a ?_
  rw [h, ValueKit.rect_emb_unit_val, ValueKit.rect_emb_unit_val]
  show _ = 128 * (4 * (g : ℕ) + j) + (0 + l)
  unfold blk; omega

/-- A device and the seven it receives from are the eight devices. -/
theorem sum_devices (f : Dev nD → EReal) (c : Dev nD) : f c + ∑ d : Fin 7, f (from' c d) = ∑ c' : Dev nD, f c' := by
  have hb : Function.Bijective (Fin.cons c (from' c) : Fin 8 → Dev nD) := by revert c; decide
  rw [← hb.sum_comp f, Fin.sum_univ_succ]
  rfl

/-- Device `c`'s columns of the result: each exponential times the reciprocal of its row's total. -/
theorem oArr_apply (c : Dev nD) (a : Fin 2048) (k : Fin 1024) :
    oArr X c (ix2 a k) = Ideal.exp (X c (ix2 a k)) * Ideal.div 1 (∑ c' : Dev nD, rowSum X c' a) := by
  have ha : a.val = 128 * blk (gOf (a.val / 128)) (jOf (a.val / 128)) + rOf a.val := by
    have := a.isLt
    simp only [blk, gOf, jOf, rOf]; omega
  have e : oArr X c (ix2 a k) = quotOf (jOf (a.val / 128)) (sGrp X c (gOf (a.val / 128))) (wGrp X c (gOf (a.val / 128)))
      (expOf (rowsOf (X c) (gOf (a.val / 128)) (jOf (a.val / 128)))) (ix2 (rOf a.val) k) := rfl
  rw [e, quotOf_apply, expOf_apply, recipOf_apply, rowsOf_apply _ _ _ _ _ a ha, sGrp_apply X c _ _ _ a ha,
    Finset.sum_congr rfl fun d _ => wGrp_apply X c _ _ d _ a ha, sum_devices fun c' => rowSum X c' a]

end

end Cert.Softmax

end
-- ==== Proof.Quot.lean ====
/- The mathematics: a quotient of exponentials does not change when every argument is shifted. -/
module

public import Idealize.ShloMosaic.PureOps.Ideal

@[expose] public section

noncomputable section

namespace Cert.Softmax

open Idealize.ShloMosaic

theorem coe_sum {ι : Type} [Fintype ι] (f : ι → ℝ) : ((∑ k, f k : ℝ) : EReal) = ∑ k, (f k : EReal) :=
  map_sum (⟨⟨Real.toEReal, rfl⟩, EReal.coe_add⟩ : ℝ →+ EReal) f Finset.univ

theorem div_coe (a b : ℝ) (h : b ≠ 0) : Ideal.div (a : EReal) (b : EReal) = ((a / b : ℝ) : EReal) := by
  unfold Ideal.div
  rw [if_neg (fun e => h (EReal.coe_eq_zero.mp e)), div_eq_mul_inv, EReal.coe_mul, EReal.coe_inv]

variable {ι : Type} [Fintype ι] [Nonempty ι]

/-- The greatest of finitely many numbers is a number. -/
theorem max_real (r : ι → ℝ) : ∃ m : ℝ, (Finset.univ : Finset ι).fold max (⊥ : EReal) (fun k => (r k : EReal)) = (m : EReal) := by
  obtain ⟨k⟩ := ‹Nonempty ι›
  have h1 : (Finset.univ : Finset ι).fold max (⊥ : EReal) (fun k => (r k : EReal)) ≠ ⊤ :=
    ((Finset.fold_max_lt _).mpr ⟨bot_lt_top, fun x _ => EReal.coe_lt_top _⟩).ne
  have h2 : (Finset.univ : Finset ι).fold max (⊥ : EReal) (fun k => (r k : EReal)) ≠ ⊥ :=
    ((Finset.lt_fold_max _).mpr (.inr ⟨k, Finset.mem_univ k, EReal.bot_lt_coe _⟩)).ne'
  exact ⟨_, (EReal.coe_toReal h1 h2).symm⟩

/-- Softmax with the arguments shifted by `m`, against the exponential times the reciprocal of the unshifted sum. -/
theorem softmax_shift (r : ι → ℝ) (m : ℝ) (j : ι) :
    Ideal.div (Ideal.exp ((r j : EReal) - (m : EReal))) (0 + ∑ k, Ideal.exp ((r k : EReal) - (m : EReal)))
      = Ideal.exp (r j) * Ideal.div 1 (∑ k, Ideal.exp (r k)) := by
  have e1 : ∀ x : ℝ, Ideal.exp ((x : EReal) - (m : EReal)) = ((Real.exp (x - m) : ℝ) : EReal) := fun x => by
    rw [← EReal.coe_sub]; rfl
  have e2 : ∀ x : ℝ, Ideal.exp (x : EReal) = ((Real.exp x : ℝ) : EReal) := fun _ => rfl
  have p : (0 : ℝ) < ∑ k, Real.exp (r k) := Finset.sum_pos (fun k _ => Real.exp_pos _) Finset.univ_nonempty
  have q : (0 : ℝ) < ∑ k, Real.exp (r k - m) := Finset.sum_pos (fun k _ => Real.exp_pos _) Finset.univ_nonempty
  simp only [e1, e2]
  rw [zero_add, ← coe_sum, ← coe_sum, div_coe _ _ q.ne', ← EReal.coe_one, div_coe _ _ p.ne', ← EReal.coe_mul]
  congr 1
  have hs : ∑ k, Real.exp (r k - m) = (∑ k, Real.exp (r k)) * (Real.exp m)⁻¹ := by
    rw [Finset.sum_mul]
    exact Finset.sum_congr rfl fun k _ => by rw [Real.exp_sub, div_eq_mul_inv]
  rw [hs, Real.exp_sub]
  have := Real.exp_ne_zero m
  field_simp

end Cert.Softmax

end
-- ==== Proof.Ref.lean ====
/- What the reference computes, over the extended reals: with `M` the greatest element of a row, the
   quotient of `exp (x - M)` by the row's sum of the same. -/
module

public import proofs.«01_k».proof.Proof.Gen.ReferenceIdeal.Run
public import Idealize.ShloMosaic.Lib.ValueIdx
public import Idealize.ShloMosaic.Lib.Pipeline.Value
public import Idealize.ShloMosaic.PureOps.Ideal.Laws

@[expose] public section

noncomputable section

namespace Cert.SoftmaxRef

open Idealize.ShloMosaic Idealize.SL.Sem Cert.ReferenceIdeal Cert.ReferenceIdeal.Gen
open Idealize.ShloMosaic.ValueIdx (ix1 ix2 eq_ix2)

theorem reduces : S2048x8192.Reduces [1] S2048 := by decide

theorem neg_inf_f32 : Ideal.ofBits .f32 0xFF800000#32 = ⊥ := by simp [Ideal.ofBits, Ideal.ieee]

theorem hostDivf_apply {s : Shape} (x y : FVec Ideal s .f32) (i : s.Idx) : Host.divf x y i = Ideal.div (x i) (y i) := rfl

/-- One number for each row, repeated along the row. -/
def spread (v : FVec Ideal S2048 .f32) : FVec Ideal S2048x8192 .f32 :=
  broadcastInDim S2048x8192 ![0, 1] bcast_S2048x1_S2048x8192_0_1 (broadcastInDim S2048x1 ![0] bcast_S2048_S2048x1_0 v)

theorem spread_apply (v : FVec Ideal S2048 .f32) (a : Fin 2048) (k : Fin 8192) : spread v (ix2 a k) = v (ix1 a) := by
  unfold spread
  rw [broadcastInDim_apply _ _ _ _ (ix2 a (0 : Fin 1)) (by intro b; match b with | ⟨0, _⟩ => rfl | ⟨1, _⟩ => rfl),
    broadcastInDim_apply _ _ _ _ (ix1 a) (by intro b; match b with | ⟨0, _⟩ => rfl)]

/-- The greatest element of each row. -/
def rowMax (x : FVec Ideal S2048x8192 .bf16) : FVec Ideal S2048 .f32 :=
  Host.reduce FloatOps.maximumf (extf .f32 x bitsLt_bf16_f32) (constant S_ .f32 0xFF800000#32) reducesTo_S2048x8192_S2048_d1 h_S_

/-- The index with column `k` in row `a`. -/
theorem lift_eq (a : Fin 2048) (k : Fin 8192) : (reduces.lift (ix1 a) k : S2048x8192.Idx) = ix2 a k := by
  funext b
  match b with
  | ⟨0, _⟩ => rfl
  | ⟨1, _⟩ => rfl

theorem rowMax_apply (x : FVec Ideal S2048x8192 .bf16) (a : Fin 2048) :
    rowMax x (ix1 a) = (Finset.univ : Finset (Fin 8192)).fold max (⊥ : EReal) (fun k => x (ix2 a k)) := by
  have h : rowMax x (ix1 a) = (Finset.univ : Finset (Fin 8192)).fold max (Ideal.ofBits .f32 0xFF800000#32)
      (fun k => x (reduces.lift (ix1 a) k)) :=
    Host.reduce_eq_fold_single (FloatOps.maximumf (F := Ideal) (φ := .f32)) (extf .f32 x bitsLt_bf16_f32)
      (constant S_ .f32 0xFF800000#32) reducesTo_S2048x8192_S2048_d1 reduces h_S_ (ix1 a)
  rw [h]
  rw [neg_inf_f32]
  exact congrArg (Finset.fold max (⊥ : EReal) · Finset.univ) (funext fun k => congrArg x (lift_eq a k))

/-- The exponentials of the differences. -/
def expDiff (x : FVec Ideal S2048x8192 .bf16) : FVec Ideal S2048x8192 .f32 :=
  Host.exp (subf (extf .f32 x bitsLt_bf16_f32) (spread (rowMax x)))

theorem expDiff_apply (x : FVec Ideal S2048x8192 .bf16) (a : Fin 2048) (k : Fin 8192) :
    expDiff x (ix2 a k) = Ideal.exp (x (ix2 a k) - rowMax x (ix1 a)) := by
  show Ideal.exp (x (ix2 a k) - spread (rowMax x) (ix2 a k)) = _
  rw [spread_apply]

/-- The sums of the exponentials of the differences along the rows. -/
def rowTotal (x : FVec Ideal S2048x8192 .bf16) : FVec Ideal S2048 .f32 :=
  Host.reduceAdd (expDiff x) (constant S_ .f32 0x00000000#32) reducesTo_S2048x8192_S2048_d1 h_S_

theorem rowTotal_apply (x : FVec Ideal S2048x8192 .bf16) (a : Fin 2048) :
    rowTotal x (ix1 a) = 0 + ∑ k : Fin 8192, expDiff x (ix2 a k) := by
  have h : rowTotal x (ix1 a) = Ideal.ofBits .f32 0x00000000#32 + ∑ k : Fin 8192, expDiff x (reduces.lift (ix1 a) k) :=
    Ideal.hostReduceAdd_single reducesTo_S2048x8192_S2048_d1 reduces (expDiff x) _ (ix1 a)
  rw [h, Ideal.ofBits_zero_f32, Finset.sum_congr rfl fun k _ => congrArg (expDiff x) (lift_eq a k)]

/-- The reference's result. -/
def refOut (x : FVec Ideal S2048x8192 .bf16) : FVec Ideal S2048x8192 .bf16 :=
  truncf .bf16 (Host.divf (expDiff x) (spread (rowTotal x))) bitsLt_bf16_f32

theorem refOut_apply (x : FVec Ideal S2048x8192 .bf16) (a : Fin 2048) (k : Fin 8192) :
    refOut x (ix2 a k) = Ideal.div (Ideal.exp (x (ix2 a k) - rowMax x (ix1 a)))
      (0 + ∑ k' : Fin 8192, Ideal.exp (x (ix2 a k') - rowMax x (ix1 a))) := by
  have h : refOut x (ix2 a k) = Ideal.div (expDiff x (ix2 a k)) (spread (rowTotal x) (ix2 a k)) := by
    unfold refOut
    rw [ValueIdx.truncf_apply, hostDivf_apply]
  rw [h, spread_apply, expDiff_apply, rowTotal_apply]
  simp only [expDiff_apply]

/-- The reference runs, and leaves `refOut` of its argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = refOut (m ((c.tc : Thread nD τ).loc main_arg0))
      ∧ r.2.mem ((c.tc : Thread nD τ).loc main_arg0) = m ((c.tc : Thread nD τ).loc main_arg0) :=
  Cert.ReferenceIdeal.Value.run (F := Ideal) m ρ

end Cert.SoftmaxRef

end
-- ==== Proof.Equal.lean ====
/- The kernel's columns are the reference's, where the elements are numbers. -/
module

public import proofs.«01_k».proof.Defs
public import proofs.«01_k».proof.Proof.Value
public import proofs.«01_k».proof.Proof.Quot
public import proofs.«01_k».proof.Proof.Ref
public import Idealize.ShloMosaic.Lib.Layout

@[expose] public section

noncomputable section

namespace Cert.Softmax

open Idealize.ShloMosaic Idealize.SL.Sem Cert.KernelIdeal Cert.KernelIdeal.Gen
open Idealize.ShloMosaic.ValueIdx (ix1 ix2 eq_ix2)

/-! ## The precondition, read -/

theorem inf_f32 : Ideal.ofBits .f32 0x7F800000#32 = ⊤ := by simp [Ideal.ofBits, Ideal.ieee]

theorem ofBool_eq {p : Prop} [Decidable p] (h : BitVec.ofBool (decide p) = 1#1) : p := by
  by_contra hp
  rw [decide_eq_false hp] at h
  exact absurd h (by decide)

/-- Both comparisons hold of an element: it is a number. -/
theorem finite_apply [Cert.Pre_finite_KernelIdeal.Facts] (x : FVec Ideal S2048x1024 .bf16)
    (h1 : (Cert.Pre_finite_KernelIdeal.fn (F := Ideal) x).1 = fun _ => 1#1)
    (h2 : (Cert.Pre_finite_KernelIdeal.fn (F := Ideal) x).2 = fun _ => 1#1) (i : S2048x1024.Idx) :
    ∃ r : ℝ, x i = (r : EReal) := by
  have e1 : BitVec.ofBool (decide (x i < Ideal.ofBits .f32 0x7F800000#32)) = 1#1 := congrFun h1 i
  have e2 : BitVec.ofBool (decide (Ideal.ofBits .f32 0xFF800000#32 < x i)) = 1#1 := congrFun h2 i
  have t := ofBool_eq e1
  have b := ofBool_eq e2
  rw [inf_f32] at t
  rw [SoftmaxRef.neg_inf_f32] at b
  exact ⟨_, (EReal.coe_toReal t.ne b.ne').symm⟩

/-! ## Columns -/

/-- Column `k` of device `c`. -/
def col (c : Dev nD) (k : Fin 1024) : Fin 8192 := ⟨c.val * 1024 + k.val, by
  have h : c.val < 8 := c.isLt
  have := k.isLt
  omega⟩

/-- Every column is one device's. -/
theorem exists_col (J : Fin 8192) : ∃ c k, col c k = J := by
  have := J.isLt
  exact ⟨(⟨J.val / 1024, by omega⟩ : Fin 8), ⟨J.val % 1024, Nat.mod_lt _ (by decide)⟩, Fin.ext (by simp only [col]; omega)⟩

theorem col_injective {c c' : Dev nD} {k k' : Fin 1024} (h : col c k = col c' k') : c = c' ∧ k = k' := by
  have e : c.val * 1024 + k.val = c'.val * 1024 + k'.val := congrArg Fin.val h
  have := k.isLt
  have := k'.isLt
  exact ⟨Fin.ext (by omega), Fin.ext (by omega)⟩

theorem sum_cols (f : Fin 8192 → EReal) : ∑ c : Dev nD, ∑ k : Fin 1024, f (col c k) = ∑ J, f J := by
  have hb : Function.Bijective fun p : Dev nD × Fin 1024 => col p.1 p.2 :=
    ⟨fun _ _ h => Prod.ext (col_injective h).1 (col_injective h).2, fun J => by
      obtain ⟨c, k, h⟩ := exists_col J
      exact ⟨(c, k), h⟩⟩
  rw [← hb.sum_comp f, Fintype.sum_prod_type]

theorem block_ix {α : Type} (v : (⟨2, ![2048, 8192]⟩ : Shape).Idx → α) (c : Dev nD) (a : Fin 2048) (k : Fin 1024) :
    Layout.block ⟨2, ![2048, 1024]⟩ ⟨2, ![2048, 8192]⟩ 1 8 c v (by decide) (ix2 a k) = v (ix2 a (col c k)) := by
  rw [Layout.block_apply]
  congr 1
  funext b
  match b with
  | ⟨0, _⟩ => rfl
  | ⟨1, _⟩ => rfl

/-! ## The equation -/

/-- From blocks of an array of numbers, each device's columns are those of the reference's result. -/
theorem oArr_eq (X : Dev nD → Vec Ideal S2048x1024 .bf16) (x : FVec Ideal ⟨2, ![2048, 8192]⟩ .bf16)
    (hX : ∀ c, X c = Layout.block ⟨2, ![2048, 1024]⟩ ⟨2, ![2048, 8192]⟩ 1 8 c x (by decide))
    (hr : ∀ c i, ∃ r : ℝ, X c i = (r : EReal)) (c : Dev nD) :
    oArr X c = Layout.block ⟨2, ![2048, 1024]⟩ ⟨2, ![2048, 8192]⟩ 1 8 c (SoftmaxRef.refOut x) (by decide) := by
  have hx : ∀ c a k, X c (ix2 a k) = x (ix2 a (col c k)) := fun c a k => by rw [hX, block_ix]
  have hn : ∀ a J, ∃ r : ℝ, x (ix2 a J) = (r : EReal) := fun a J => by
    obtain ⟨c, k, rfl⟩ := exists_col J
    rw [← hx]
    exact hr _ _
  choose r hr' using hn
  funext i
  obtain ⟨a, k, rfl⟩ : ∃ a k, i = ix2 a k := ⟨_, _, eq_ix2 i⟩
  obtain ⟨M, hM⟩ := max_real fun J => r a J
  have hmax : SoftmaxRef.rowMax x (ix1 a) = (M : EReal) := by
    rw [SoftmaxRef.rowMax_apply, ← hM]
    exact congrArg (Finset.fold max (⊥ : EReal) · Finset.univ) (funext fun J => hr' a J)
  rw [block_ix, SoftmaxRef.refOut_apply, hmax, oArr_apply, hx]
  have hs : ∑ c' : Dev nD, rowSum X c' a = ∑ J, Ideal.exp (x (ix2 a J)) := by
    rw [← sum_cols]
    exact Finset.sum_congr rfl fun c' _ => Finset.sum_congr rfl fun k' _ => congrArg Ideal.exp (hx c' a k')
  rw [hs]
  simp only [hr']
  exact (softmax_shift (r a) M (col c k)).symm

end Cert.Softmax

end
-- ==== Proof.lean ====
/- The claims, assembled: the three frames, and that the kernel's columns are the softmax's.

   The run of the kernel is proved once, over any float values (Launch), with what its buffers end at
   (Geo). Its frames are that run with the values dropped; the value claim is that run over the
   extended reals, where the result is read element by element (Value), against the reference's (Ref),
   by the equation of the two (Quot, Equal). -/
module

public import proofs.«01_k».proof.Defs
public import proofs.«01_k».proof.Proof.Launch
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem facts_kernelPre : Cert.Pre_finite_KernelIdeal.Facts := ⟨by decide, by decide⟩

theorem facts_referencePre : Cert.Pre_finite_ReferenceIdeal.Facts := ⟨by decide, by decide⟩

attribute [local instance] Cert.Kernel.Gen.facts Cert.KernelIdeal.Gen.facts Cert.ReferenceIdeal.Gen.facts
  facts_kernelPre facts_referencePre

/-- The kernel read at the extended reals runs from any memory. -/
theorem frame_ideal : Cert.quiescent_KernelIdeal := fun m ρ _ =>
  (θ_run Cert.KernelIdeal.defs _ _).mono
    (fun _ h => ⟨fun c => (h.1 c (0 : Fin 2)).trans (Softmax.finalA_x m ρ c), h.2⟩)
    (Softmax.run_main (F := Ideal) m ρ)

/-- What is claimed of the kernel, said of the text read at the extended reals but with the machine's floats. -/
def FrameBits : Prop :=
  ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0)

theorem frameBits : FrameBits := fun m ρ _ =>
  (θ_run Cert.KernelIdeal.defs _ _).mono
    (fun _ h => ⟨fun c => (h.1 c (0 : Fin 2)).trans (Softmax.finalA_x m ρ c), h.2⟩)
    (Softmax.run_main (F := Bits) m ρ)

/-- The two texts are one. -/
theorem frameBits_eq : Cert.quiescent_Kernel = FrameBits := by sl_kernel_rfl

/-- The kernel itself runs from any memory. -/
theorem frame_kernel : Cert.quiescent_Kernel := frameBits_eq.mpr frameBits

/-- The reference runs from any memory; it names no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- What device `c`'s columns of the result end at, from blocks of one array of numbers. -/
theorem final_eq (m : (ℓ : Loc Cert.KernelIdeal.nD Cert.KernelIdeal.τ Cert.KernelIdeal.sig) → Buf (Elt Ideal) ℓ)
    (ρ : Dev Cert.KernelIdeal.nD → PrngReg) (x : FVec Ideal ⟨2, ![2048, 8192]⟩ .bf16) (hpre : Cert.Pre_KernelIdeal_finite_KernelIdeal m)
    (hx : ∀ c : Dev Cert.KernelIdeal.nD,
      m ((c.tc : Thread Cert.KernelIdeal.nD Cert.KernelIdeal.τ).loc Cert.KernelIdeal.main_arg0)
        = Layout.block ⟨2, ![2048, 1024]⟩ ⟨2, ![2048, 8192]⟩ 1 8 c x) (c : Dev Cert.KernelIdeal.nD) :
    Softmax.finalA m ρ c 1 = Layout.block ⟨2, ![2048, 1024]⟩ ⟨2, ![2048, 8192]⟩ 1 8 c (SoftmaxRef.refOut x) := by
  rw [Softmax.finalA_o]
  refine Softmax.oArr_eq _ x (fun c => (Softmax.xstg_eq m ρ c).trans (hx c)) (fun c i => ?_) c
  rw [Softmax.xstg_eq]
  exact Softmax.finite_apply _ (hpre c).1 (hpre c).2 i

/-- Kernel and reference compute one function of numbers: device `c`'s columns are block `c` of the softmax. -/
theorem same : Cert.algebraic_KernelIdeal_ReferenceIdeal_pre_finite_KernelIdeal := fun m ρ m' ρ' hpre hx =>
  ⟨SoftmaxRef.refOut (m' (((0 : Dev Cert.ReferenceIdeal.nD).tc : Thread Cert.ReferenceIdeal.nD Cert.ReferenceIdeal.τ).loc
      Cert.ReferenceIdeal.main_arg0)),
    (θ_run Cert.KernelIdeal.defs _ _).mono
      (fun _ h c => ⟨(h.1 c (1 : Fin 2)).trans (final_eq m ρ _ hpre hx c), (h.1 c (0 : Fin 2)).trans (Softmax.finalA_x m ρ c)⟩)
      (Softmax.run_main (F := Ideal) m ρ),
    (θ_run Cert.ReferenceIdeal.defs _ _).mono (fun _ h => h 0) (SoftmaxRef.run m' ρ')⟩

theorem claim : Cert.Claim := ⟨Cert.Kernel.Gen.facts, Cert.KernelIdeal.Gen.facts, Cert.ReferenceIdeal.Gen.facts,
  facts_kernelPre, facts_referencePre, frame_kernel, frame_ideal, fun m ρ _ => frame_ideal m ρ trivial,
  frame_reference, fun m ρ _ => frame_reference m ρ trivial, trivial, same⟩

end Cert.Proof

end
